-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_packed_and_finite [hPre_packed_and_finite : Cert.Pre_packed_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_packed_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_packed_and_finite [hPre_packed_and_finite : Cert.Pre_packed_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_packed_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_mixers [hPre_finite_mixers : Cert.Pre_finite_mixers.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_mixers.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_mixers [hPre_finite_mixers : Cert.Pre_finite_mixers.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_mixers.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_mixers_after_context [hPre_finite_mixers_after_context : Cert.Pre_finite_mixers_after_context.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_mixers_after_context.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_mixers_after_context [hPre_finite_mixers_after_context : Cert.Pre_finite_mixers_after_context.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_mixers_after_context.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_packed_and_finite [hKernelIdeal : Cert.KernelIdeal.Facts] [hPre_packed_and_finite : Cert.Pre_packed_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_packed_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_packed_and_finite [hReferenceIdeal : Cert.ReferenceIdeal.Facts] [hPre_packed_and_finite : Cert.Pre_packed_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_packed_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite_mixers [hKernel4Ideal : Cert.Kernel4Ideal.Facts] [hPre_finite_mixers : Cert.Pre_finite_mixers.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_mixers m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite_mixers [hReference4Ideal : Cert.Reference4Ideal.Facts] [hPre_finite_mixers : Cert.Pre_finite_mixers.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_mixers m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite_mixers_after_context [hKernel5Ideal : Cert.Kernel5Ideal.Facts] [hPre_finite_mixers_after_context : Cert.Pre_finite_mixers_after_context.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_mixers_after_context m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite_mixers_after_context [hReference5Ideal : Cert.Reference5Ideal.Facts] [hPre_finite_mixers_after_context : Cert.Pre_finite_mixers_after_context.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_mixers_after_context m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_packed_and_finite [hKernelIdeal : Cert.KernelIdeal.Facts] [hReferenceIdeal : Cert.ReferenceIdeal.Facts] [hPre_packed_and_finite : Cert.Pre_packed_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_packed_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v78) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite_mixers [hKernel4Ideal : Cert.Kernel4Ideal.Facts] [hReference4Ideal : Cert.Reference4Ideal.Facts] [hPre_finite_mixers : Cert.Pre_finite_mixers.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_mixers m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v85) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_finite_mixers_after_context [hKernel5Ideal : Cert.Kernel5Ideal.Facts] [hReference5Ideal : Cert.Reference5Ideal.Facts] [hPre_finite_mixers_after_context : Cert.Pre_finite_mixers_after_context.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_mixers_after_context m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v70) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_packed_and_finite : Cert.Pre_packed_and_finite.Facts) (hPre_finite_mixers : Cert.Pre_finite_mixers.Facts) (hPre_finite_mixers_after_context : Cert.Pre_finite_mixers_after_context.Facts),
    quiescent_Kernel (hKernel := hKernel)
    ∧ quiescent_KernelIdeal (hKernelIdeal := hKernelIdeal)
    ∧ quiescent_KernelIdeal_pre_packed_and_finite (hKernelIdeal := hKernelIdeal) (hPre_packed_and_finite := hPre_packed_and_finite)
    ∧ quiescent_ReferenceIdeal (hReferenceIdeal := hReferenceIdeal)
    ∧ quiescent_ReferenceIdeal_pre_packed_and_finite (hReferenceIdeal := hReferenceIdeal) (hPre_packed_and_finite := hPre_packed_and_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_mixers (hKernel4Ideal := hKernel4Ideal) (hPre_finite_mixers := hPre_finite_mixers)
    ∧ quiescent_Reference4Ideal (hReference4Ideal := hReference4Ideal)
    ∧ quiescent_Reference4Ideal_pre_finite_mixers (hReference4Ideal := hReference4Ideal) (hPre_finite_mixers := hPre_finite_mixers)
    ∧ quiescent_Kernel5 (hKernel5 := hKernel5)
    ∧ quiescent_Kernel5Ideal (hKernel5Ideal := hKernel5Ideal)
    ∧ quiescent_Kernel5Ideal_pre_finite_mixers_after_context (hKernel5Ideal := hKernel5Ideal) (hPre_finite_mixers_after_context := hPre_finite_mixers_after_context)
    ∧ quiescent_Reference5Ideal (hReference5Ideal := hReference5Ideal)
    ∧ quiescent_Reference5Ideal_pre_finite_mixers_after_context (hReference5Ideal := hReference5Ideal) (hPre_finite_mixers_after_context := hPre_finite_mixers_after_context)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_packed_and_finite (hKernelIdeal := hKernelIdeal) (hReferenceIdeal := hReferenceIdeal) (hPre_packed_and_finite := hPre_packed_and_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_mixers (hKernel4Ideal := hKernel4Ideal) (hReference4Ideal := hReference4Ideal) (hPre_finite_mixers := hPre_finite_mixers)
    ∧ preserves_Kernel5_Kernel5Ideal
    ∧ algebraic_Kernel5Ideal_Reference5Ideal_pre_finite_mixers_after_context (hKernel5Ideal := hKernel5Ideal) (hReference5Ideal := hReference5Ideal) (hPre_finite_mixers_after_context := hPre_finite_mixers_after_context)
    ∧ preserves_Kernel6_Kernel6Ideal
    ∧ algebraic_Kernel6Ideal_Reference6Ideal (hKernel6Ideal := hKernel6Ideal) (hReference6Ideal := hReference6Ideal)
-- ==== Pre_finite_mixers.lean ====
abbrev S2x8448x1024 : Shape := ⟨3, ![2, 8448, 1024]⟩
abbrev S8x6144 : Shape := ⟨2, ![8, 6144]⟩
abbrev S2x8448x512 : Shape := ⟨3, ![2, 8448, 512]⟩
abbrev S2x8448x256 : Shape := ⟨3, ![2, 8448, 256]⟩
abbrev S1x1024 : Shape := ⟨2, ![1, 1024]⟩
abbrev S1024x1024 : Shape := ⟨2, ![1024, 1024]⟩
abbrev S_ : Shape := ⟨0, ![]⟩

class Facts : Prop where
  slices_S2x8448x512_S2x8448x256_0_0_0 : S2x8448x512.Slices ![0, 0, 0] S2x8448x256
  bcast_S_S2x8448x256 : S_.BroadcastsInDim S2x8448x256 (![] : Fin 0 → Fin S2x8448x256.rank)
  slices_S2x8448x512_S2x8448x256_0_0_256 : S2x8448x512.Slices ![0, 0, 256] S2x8448x256

variable [Facts]

def fn {F : FTy → Type} [FloatOps F] (main_arg0 : FVec F S2x8448x1024 .f32) (main_arg1 : FVec F S8x6144 .f32) (main_arg2 : FVec F S2x8448x512 .f32) (main_arg3 : FVec F S2x8448x256 .f32) (main_arg4 : FVec F S2x8448x256 .f32) (main_arg5 : FVec F S2x8448x256 .f32) (main_arg6 : FVec F S2x8448x256 .f32) (main_arg7 : FVec F S1x1024 .f32) (main_arg8 : FVec F S1024x1024 .bf16) : IVec S2x8448x256 1 :=
  let main_v0 : FVec F S2x8448x256 .f32 := (extractStridedSlice S2x8448x256 ![0, 0, 0] · slices_S2x8448x512_S2x8448x256_0_0_0) main_arg2
  let main_v1 : FVec F S2x8448x256 .f32 := Host.absf main_v0
  let main_cst : FVec F S_ .f32 := constant S_ .f32 0x7F800000#32
  let main_v2 : FVec F S2x8448x256 .f32 := broadcastInDim S2x8448x256 ![] bcast_S_S2x8448x256 main_cst
  let main_v3 : IVec S2x8448x256 1 := cmpf .olt main_v1 main_v2
  let main_v4 : FVec F S2x8448x256 .f32 := (extractStridedSlice S2x8448x256 ![0, 0, 256] · slices_S2x8448x512_S2x8448x256_0_0_256) main_arg2
  let main_v5 : FVec F S2x8448x256 .f32 := Host.absf main_v4
  let main_cst_0 : FVec F S_ .f32 := constant S_ .f32 0x7F800000#32
  let main_v6 : FVec F S2x8448x256 .f32 := broadcastInDim S2x8448x256 ![] bcast_S_S2x8448x256 main_cst_0
  let main_v7 : IVec S2x8448x256 1 := cmpf .olt main_v5 main_v6
  let main_v8 : IVec S2x8448x256 1 := andi main_v3 main_v7
  let main_v9 : FVec F S2x8448x256 .f32 := Host.absf main_arg3
  let main_cst_1 : FVec F S_ .f32 := constant S_ .f32 0x7F800000#32
  let main_v10 : FVec F S2x8448x256 .f32 := broadcastInDim S2x8448x256 ![] bcast_S_S2x8448x256 main_cst_1
  let main_v11 : IVec S2x8448x256 1 := cmpf .olt main_v9 main_v10
  let main_v12 : IVec S2x8448x256 1 := andi main_v8 main_v11
  let main_v13 : FVec F S2x8448x256 .f32 := addf main_arg4 main_arg5
  let main_v14 : FVec F S2x8448x256 .f32 := Host.absf main_v13
  let main_cst_2 : FVec F S_ .f32 := constant S_ .f32 0x7F800000#32
  let main_v15 : FVec F S2x8448x256 .f32 := broadcastInDim S2x8448x256 ![] bcast_S_S2x8448x256 main_cst_2
  let main_v16 : IVec S2x8448x256 1 := cmpf .olt main_v14 main_v15
  let main_v17 : IVec S2x8448x256 1 := andi main_v12 main_v16
  main_v17
-- ==== Pre_finite_mixers_after_context.lean ====
abbrev S2x8448x1024 : Shape := ⟨3, ![2, 8448, 1024]⟩
abbrev S8x6144 : Shape := ⟨2, ![8, 6144]⟩
abbrev S2x8448x512 : Shape := ⟨3, ![2, 8448, 512]⟩
abbrev S2x8448x256 : Shape := ⟨3, ![2, 8448, 256]⟩
abbrev S1x1024 : Shape := ⟨2, ![1, 1024]⟩
abbrev S1024x1024 : Shape := ⟨2, ![1024, 1024]⟩
abbrev S2x8192x512 : Shape := ⟨3, ![2, 8192, 512]⟩
abbrev S2x8192x256 : Shape := ⟨3, ![2, 8192, 256]⟩
abbrev S_ : Shape := ⟨0, ![]⟩

class Facts : Prop where
  slices_S2x8448x512_S2x8192x512_0_256_0 : S2x8448x512.Slices ![0, 256, 0] S2x8192x512
  slices_S2x8448x256_S2x8192x256_0_256_0 : S2x8448x256.Slices ![0, 256, 0] S2x8192x256
  slices_S2x8192x512_S2x8192x256_0_0_0 : S2x8192x512.Slices ![0, 0, 0] S2x8192x256
  bcast_S_S2x8192x256 : S_.BroadcastsInDim S2x8192x256 (![] : Fin 0 → Fin S2x8192x256.rank)
  slices_S2x8192x512_S2x8192x256_0_0_256 : S2x8192x512.Slices ![0, 0, 256] S2x8192x256

variable [Facts]

def fn_part1 {F : FTy → Type} [FloatOps F] (main_v17 : IVec S2x8192x256 1) (main_v18 : FVec F S2x8192x256 .f32) (main_v19 : FVec F S2x8192x256 .f32) : IVec S2x8192x256 1 :=
  let main_v20 : IVec S2x8192x256 1 := cmpf .olt main_v18 main_v19
  let main_v21 : IVec S2x8192x256 1 := andi main_v17 main_v20
  main_v21

def fn {F : FTy → Type} [FloatOps F] (main_arg0 : FVec F S2x8448x1024 .f32) (main_arg1 : FVec F S8x6144 .f32) (main_arg2 : FVec F S2x8448x512 .f32) (main_arg3 : FVec F S2x8448x256 .f32) (main_arg4 : FVec F S2x8448x256 .f32) (main_arg5 : FVec F S2x8448x256 .f32) (main_arg6 : FVec F S2x8448x256 .f32) (main_arg7 : FVec F S1x1024 .f32) (main_arg8 : FVec F S1024x1024 .bf16) : IVec S2x8192x256 1 :=
  let main_v0 : FVec F S2x8192x512 .f32 := (extractStridedSlice S2x8192x512 ![0, 256, 0] · slices_S2x8448x512_S2x8192x512_0_256_0) main_arg2
  let main_v1 : FVec F S2x8192x256 .f32 := (extractStridedSlice S2x8192x256 ![0, 256, 0] · slices_S2x8448x256_S2x8192x256_0_256_0) main_arg3
  let main_v2 : FVec F S2x8192x256 .f32 := (extractStridedSlice S2x8192x256 ![0, 256, 0] · slices_S2x8448x256_S2x8192x256_0_256_0) main_arg4
  let main_v3 : FVec F S2x8192x256 .f32 := (extractStridedSlice S2x8192x256 ![0, 256, 0] · slices_S2x8448x256_S2x8192x256_0_256_0) main_arg5
  let main_v4 : FVec F S2x8192x256 .f32 := addf main_v2 main_v3
  let main_v5 : FVec F S2x8192x256 .f32 := (extractStridedSlice S2x8192x256 ![0, 0, 0] · slices_S2x8192x512_S2x8192x256_0_0_0) main_v0
  let main_v6 : FVec F S2x8192x256 .f32 := Host.absf main_v5
  let main_cst : FVec F S_ .f32 := constant S_ .f32 0x7F800000#32
  let main_v7 : FVec F S2x8192x256 .f32 := broadcastInDim S2x8192x256 ![] bcast_S_S2x8192x256 main_cst
  let main_v8 : IVec S2x8192x256 1 := cmpf .olt main_v6 main_v7
  let main_v9 : FVec F S2x8192x256 .f32 := (extractStridedSlice S2x8192x256 ![0, 0, 256] · slices_S2x8192x512_S2x8192x256_0_0_256) main_v0
  let main_v10 : FVec F S2x8192x256 .f32 := Host.absf main_v9
  let main_cst_0 : FVec F S_ .f32 := constant S_ .f32 0x7F800000#32
  let main_v11 : FVec F S2x8192x256 .f32 := broadcastInDim S2x8192x256 ![] bcast_S_S2x8192x256 main_cst_0
  let main_v12 : IVec S2x8192x256 1 := cmpf .olt main_v10 main_v11
  let main_v13 : IVec S2x8192x256 1 := andi main_v8 main_v12
  let main_v14 : FVec F S2x8192x256 .f32 := Host.absf main_v1
  let main_cst_1 : FVec F S_ .f32 := constant S_ .f32 0x7F800000#32
  let main_v15 : FVec F S2x8192x256 .f32 := broadcastInDim S2x8192x256 ![] bcast_S_S2x8192x256 main_cst_1
  let main_v16 : IVec S2x8192x256 1 := cmpf .olt main_v14 main_v15
  let main_v17 : IVec S2x8192x256 1 := andi main_v13 main_v16
  let main_v18 : FVec F S2x8192x256 .f32 := Host.absf main_v4
  let main_cst_2 : FVec F S_ .f32 := constant S_ .f32 0x7F800000#32
  let main_v19 : FVec F S2x8192x256 .f32 := broadcastInDim S2x8192x256 ![] bcast_S_S2x8192x256 main_cst_2
  fn_part1 (F := F) main_v17 main_v18 main_v19
-- ==== Pre_packed_and_finite.lean ====
abbrev S2x8x8448x128 : Shape := ⟨4, ![2, 8, 8448, 128]⟩
abbrev S2x8448x128 : Shape := ⟨3, ![2, 8448, 128]⟩
abbrev S_ : Shape := ⟨0, ![]⟩
abbrev S2x1x8448x128 : Shape := ⟨4, ![2, 1, 8448, 128]⟩

class Facts : Prop where
  bitsLt_bf16_f32 : FTy.bits .bf16 < FTy.bits .f32
  bcast_S_S2x8x8448x128 : S_.BroadcastsInDim S2x8x8448x128 (![] : Fin 0 → Fin S2x8x8448x128.rank)
  bcast_S_S2x8448x128 : S_.BroadcastsInDim S2x8448x128 (![] : Fin 0 → Fin S2x8448x128.rank)
  bcast_S2x8448x128_S2x1x8448x128_0_2_3 : S2x8448x128.BroadcastsInDim S2x1x8448x128 (![0, 2, 3] : Fin 3 → Fin S2x1x8448x128.rank)
  bcast_S2x1x8448x128_S2x8x8448x128_0_1_2_3 : S2x1x8448x128.BroadcastsInDim S2x8x8448x128 (![0, 1, 2, 3] : Fin 4 → Fin S2x8x8448x128.rank)

variable [Facts]

def fn_part1 {F : FTy → Type} [FloatOps F] (main_v0 : FVec F S2x8x8448x128 .f32) (main_v8 : IVec S2x8x8448x128 1) (main_v17 : IVec S2x8x8448x128 1) (main_v18 : FVec F S2x8x8448x128 .f32) : IVec S2x8x8448x128 1 :=
  let main_v19 : IVec S2x8x8448x128 1 := cmpf .oeq main_v0 main_v18
  let main_v20 : IVec S2x8x8448x128 1 := ori main_v8 main_v19
  let main_v21 : IVec S2x8x8448x128 1 := andi main_v17 main_v20
  main_v21

def fn {F : FTy → Type} [FloatOps F] (main_arg0 : FVec F S2x8x8448x128 .bf16) (main_arg1 : FVec F S2x8448x128 .bf16) (main_arg2 : FVec F S2x8448x128 .bf16) : IVec S2x8x8448x128 1 :=
  let main_v0 : FVec F S2x8x8448x128 .f32 := (extf .f32 · bitsLt_bf16_f32) main_arg0
  let main_v1 : FVec F S2x8448x128 .f32 := (extf .f32 · bitsLt_bf16_f32) main_arg1
  let main_v2 : IVec S2x8x8448x128 32 := iotaInDim S2x8x8448x128 32 1
  let main_v3 : IVec S2x8x8448x128 32 := iotaInDim S2x8x8448x128 32 3
  let main_c : IVec S_ 32 := constantI S_ 32 4#32
  let main_v4 : IVec S2x8x8448x128 32 := broadcastInDim S2x8x8448x128 ![] bcast_S_S2x8x8448x128 main_c
  let main_v5 : IVec S2x8x8448x128 1 := cmpi .slt main_v2 main_v4
  let main_c_0 : IVec S_ 32 := constantI S_ 32 64#32
  let main_v6 : IVec S2x8x8448x128 32 := broadcastInDim S2x8x8448x128 ![] bcast_S_S2x8x8448x128 main_c_0
  let main_v7 : IVec S2x8x8448x128 1 := cmpi .slt main_v3 main_v6
  let main_v8 : IVec S2x8x8448x128 1 := cmpi .eq main_v5 main_v7
  let main_v9 : FVec F S2x8x8448x128 .f32 := Host.absf main_v0
  let main_cst : FVec F S_ .f32 := constant S_ .f32 0x7F800000#32
  let main_v10 : FVec F S2x8x8448x128 .f32 := broadcastInDim S2x8x8448x128 ![] bcast_S_S2x8x8448x128 main_cst
  let main_v11 : IVec S2x8x8448x128 1 := cmpf .olt main_v9 main_v10
  let main_v12 : FVec F S2x8448x128 .f32 := Host.absf main_v1
  let main_cst_1 : FVec F S_ .f32 := constant S_ .f32 0x7F800000#32
  let main_v13 : FVec F S2x8448x128 .f32 := broadcastInDim S2x8448x128 ![] bcast_S_S2x8448x128 main_cst_1
  let main_v14 : IVec S2x8448x128 1 := cmpf .olt main_v12 main_v13
  let main_v15 : IVec S2x1x8448x128 1 := broadcastInDim S2x1x8448x128 ![0, 2, 3] bcast_S2x8448x128_S2x1x8448x128_0_2_3 main_v14
  let main_v16 : IVec S2x8x8448x128 1 := broadcastInDim S2x8x8448x128 ![0, 1, 2, 3] bcast_S2x1x8448x128_S2x8x8448x128_0_1_2_3 main_v15
  let main_v17 : IVec S2x8x8448x128 1 := andi main_v11 main_v16
  let main_cst_2 : FVec F S_ .f32 := constant S_ .f32 0x00000000#32
  let main_v18 : FVec F S2x8x8448x128 .f32 := broadcastInDim S2x8x8448x128 ![] bcast_S_S2x8x8448x128 main_cst_2
  fn_part1 (F := F) main_v0 main_v8 main_v17 main_v18
-- ==== Kernel.lean ====
abbrev S2x8x8448x128 : Shape := ⟨4, ![2, 8, 8448, 128]⟩
abbrev S2x8448x128 : Shape := ⟨3, ![2, 8448, 128]⟩
abbrev S2x8448x512 : Shape := ⟨3, ![2, 8448, 512]⟩
abbrev S1x8x256x128 : Shape := ⟨4, ![1, 8, 256, 128]⟩
abbrev S1x8448x128 : Shape := ⟨3, ![1, 8448, 128]⟩
abbrev S1x256x512 : Shape := ⟨3, ![1, 256, 512]⟩
abbrev S2048x1 : Shape := ⟨2, ![2048, 1]⟩
abbrev S2048x128 : Shape := ⟨2, ![2048, 128]⟩
abbrev S1x256x128 : Shape := ⟨3, ![1, 256, 128]⟩
abbrev S256x128 : Shape := ⟨2, ![256, 128]⟩
abbrev S1x1x256x128 : Shape := ⟨4, ![1, 1, 256, 128]⟩
abbrev S256x256 : Shape := ⟨2, ![256, 256]⟩
abbrev S256x1 : Shape := ⟨2, ![256, 1]⟩
abbrev S256 : Shape := ⟨1, ![256]⟩
abbrev S1x512x128 : Shape := ⟨3, ![1, 512, 128]⟩
abbrev S512x128 : Shape := ⟨2, ![512, 128]⟩
abbrev S256x512 : Shape := ⟨2, ![256, 512]⟩

abbrev nBuf : Space → Nat
  | .hbm => 4
  | .vmem => 11
  | .smem => 0
  | _ => 0

abbrev bufTy : (tb : Table) → Fin (tcTables nBuf tb) → BufTy
  | .hbm, ⟨0, _⟩ => ⟨S2x8x8448x128, .bf16⟩
  | .hbm, ⟨1, _⟩ => ⟨S2x8448x128, .bf16⟩
  | .hbm, ⟨2, _⟩ => ⟨S2x8448x128, .bf16⟩
  | .hbm, ⟨3, _⟩ => ⟨S2x8448x512, .f32⟩
  | .local _ .vmem, ⟨0, _⟩ => ⟨S1x8x256x128, .bf16⟩
  | .local _ .vmem, ⟨1, _⟩ => ⟨S1x8x256x128, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x256x512, .f32⟩
  | .local _ .vmem, ⟨7, _⟩ => ⟨S1x256x512, .f32⟩
  | .local _ .vmem, ⟨8, _⟩ => ⟨S2048x1, .f32⟩
  | .local _ .vmem, ⟨9, _⟩ => ⟨S2048x1, .f32⟩
  | .local _ .vmem, ⟨10, _⟩ => ⟨S2048x128, .f32⟩
  | _, _ => ⟨S2x8x8448x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 33], ![false, false]⟩

@[reducible] def k0_t1_loop : Scf.Loop 32 :=
  let c0_i32 : BitVec 32 := 0#32
  let c8_i32 : BitVec 32 := 8#32
  let v16 : BitVec 32 := Scalar.addi c0_i32 c8_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v79 : BitVec 32 := Scalar.muli arg9 c256_i32
  v79
def k0_off1 (k0_t1 : Fin k0_t1_loop.trips) : Fin 4 → Nat :=
  let c0_60 : Index := 0#32
  let c0_i32 : BitVec 32 := 0#32
  let c1_i32 : BitVec 32 := 1#32
  let arg9 : BitVec 32 := Scf.iv c0_i32 c1_i32 k0_t1
  let v81 : Index := Scalar.indexCast arg9
  let c0_61 : Index := 0#32
  let c0_62 : Index := 0#32
  ![0, v81.toNat, 0, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v79 : BitVec 32 := Scalar.muli arg9 c256_i32
  let v80 : BitVec 32 := v79
  let v85 : Index := Scalar.indexCast v80
  let c0_64 : Index := 0#32
  ![v85.toNat, 0]
def k0_off3 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v79 : BitVec 32 := Scalar.muli arg9 c256_i32
  let v80 : BitVec 32 := v79
  let v105 : Index := Scalar.indexCast v80
  let c0_69 : Index := 0#32
  ![v105.toNat, 0]
@[reducible] def k0_t2_loop (i : grid0.Coords) : Scf.Loop 32 :=
  let c0_i32_17 : BitVec 32 := 0#32
  let arg1 : BitVec 32 := BitVec.ofNat 32 (i 1).val
  let c1_i32_14 : BitVec 32 := 1#32
  let v17 : BitVec 1 := Scalar.cmpi .slt arg1 c1_i32_14
  let c0_i32_15 : BitVec 32 := 0#32
  let c16_i32 : BitVec 32 := 16#32
  let v18 : BitVec 32 := Scalar.select v17 c0_i32_15 c16_i32
  let v19 : BitVec 32 := Scalar.subi v18 c0_i32_17
  let c1_i32_18 : BitVec 32 := 1#32
  let v21 : BitVec 32 := Scalar.divsi v19 c1_i32_18
  let v22 : BitVec 32 := Scalar.muli v21 c1_i32_18
  let v23 : BitVec 32 := Scalar.addi c0_i32_17 v22
  let c1_i32_19 : BitVec 32 := 1#32
  ⟨c0_i32_17, v23, c1_i32_19⟩
def k0_mult2 (i : grid0.Coords) (k0_t2 : Fin (k0_t2_loop i).trips) : BitVec 32 :=
  let c256_i32 : BitVec 32 := 256#32
  let c0_i32_17 : BitVec 32 := 0#32
  let c1_i32_19 : BitVec 32 := 1#32
  let arg9 : BitVec 32 := Scf.iv c0_i32_17 c1_i32_19 k0_t2
  let c512_i32 : BitVec 32 := 512#32
  let v79 : BitVec 32 := Scalar.muli arg9 c512_i32
  let v80 : BitVec 32 := Scalar.addi c256_i32 v79
  v80
def k0_off4 (i : grid0.Coords) (k0_t2 : Fin (k0_t2_loop i).trips) : Fin 3 → Nat :=
  let c0_60 : Index := 0#32
  let c256_i32 : BitVec 32 := 256#32
  let c0_i32_17 : BitVec 32 := 0#32
  let c1_i32_19 : BitVec 32 := 1#32
  let arg9 : BitVec 32 := Scf.iv c0_i32_17 c1_i32_19 k0_t2
  let c512_i32 : BitVec 32 := 512#32
  let v79 : BitVec 32 := Scalar.muli arg9 c512_i32
  let v80 : BitVec 32 := Scalar.addi c256_i32 v79
  let v81 : BitVec 32 := v80
  let v82 : Index := Scalar.indexCast v81
  let c0_61 : Index := 0#32
  ![0, v82.toNat, 0]
@[reducible] def k0_t3_loop : Scf.Loop 32 :=
  let c0_i32_65 : BitVec 32 := 0#32
  let c8_i32_66 : BitVec 32 := 8#32
  let v88 : BitVec 32 := Scalar.addi c0_i32_65 c8_i32_66
  let c1_i32_67 : BitVec 32 := 1#32
  ⟨c0_i32_65, v88, c1_i32_67⟩
def k0_mult3 (k0_t3 : Fin k0_t3_loop.trips) : BitVec 32 :=
  let c0_i32_65 : BitVec 32 := 0#32
  let c1_i32_67 : BitVec 32 := 1#32
  let arg10 : BitVec 32 := Scf.iv c0_i32_65 c1_i32_67 k0_t3
  let c256_i32_69 : BitVec 32 := 256#32
  let v89 : BitVec 32 := Scalar.muli arg10 c256_i32_69
  v89
def k0_off5 (k0_t3 : Fin k0_t3_loop.trips) : Fin 4 → Nat :=
  let c0_70 : Index := 0#32
  let c0_i32_65 : BitVec 32 := 0#32
  let c1_i32_67 : BitVec 32 := 1#32
  let arg10 : BitVec 32 := Scf.iv c0_i32_65 c1_i32_67 k0_t3
  let v91 : Index := Scalar.indexCast arg10
  let c0_71 : Index := 0#32
  let c0_72 : Index := 0#32
  ![0, v91.toNat, 0, 0]
def k0_off6 (k0_t3 : Fin k0_t3_loop.trips) : Fin 2 → Nat :=
  let c0_i32_65 : BitVec 32 := 0#32
  let c1_i32_67 : BitVec 32 := 1#32
  let arg10 : BitVec 32 := Scf.iv c0_i32_65 c1_i32_67 k0_t3
  let c256_i32_69 : BitVec 32 := 256#32
  let v89 : BitVec 32 := Scalar.muli arg10 c256_i32_69
  let v90 : BitVec 32 := v89
  let v95 : Index := Scalar.indexCast v90
  let c0_74 : Index := 0#32
  ![v95.toNat, 0]
def k0_off7 (k0_t3 : Fin k0_t3_loop.trips) : Fin 2 → Nat :=
  let c0_i32_65 : BitVec 32 := 0#32
  let c1_i32_67 : BitVec 32 := 1#32
  let arg10 : BitVec 32 := Scf.iv c0_i32_65 c1_i32_67 k0_t3
  let c256_i32_69 : BitVec 32 := 256#32
  let v89 : BitVec 32 := Scalar.muli arg10 c256_i32_69
  let v90 : BitVec 32 := v89
  let v115 : Index := Scalar.indexCast v90
  let c0_79 : Index := 0#32
  ![v115.toNat, 0]
@[reducible] def k0_t4_loop (i : grid0.Coords) : Scf.Loop 32 :=
  let c0_i32_17 : BitVec 32 := 0#32
  let arg1 : BitVec 32 := BitVec.ofNat 32 (i 1).val
  let c1_i32_14 : BitVec 32 := 1#32
  let v17 : BitVec 1 := Scalar.cmpi .slt arg1 c1_i32_14
  let c0_i32_15 : BitVec 32 := 0#32
  let c16_i32 : BitVec 32 := 16#32
  let v18 : BitVec 32 := Scalar.select v17 c0_i32_15 c16_i32
  let v19 : BitVec 32 := Scalar.subi v18 c0_i32_17
  let c1_i32_18 : BitVec 32 := 1#32
  let v21 : BitVec 32 := Scalar.divsi v19 c1_i32_18
  let v22 : BitVec 32 := Scalar.muli v21 c1_i32_18
  let v23 : BitVec 32 := Scalar.addi c0_i32_17 v22
  let v20 : BitVec 32 := Scalar.addi c0_i32_17 v19
  let c1_i32_20 : BitVec 32 := 1#32
  ⟨v23, v20, c1_i32_20⟩
def k0_mult4 (i : grid0.Coords) (k0_t4 : Fin (k0_t4_loop i).trips) : BitVec 32 :=
  let c256_i32 : BitVec 32 := 256#32
  let c0_i32_17 : BitVec 32 := 0#32
  let arg1 : BitVec 32 := BitVec.ofNat 32 (i 1).val
  let c1_i32_14 : BitVec 32 := 1#32
  let v17 : BitVec 1 := Scalar.cmpi .slt arg1 c1_i32_14
  let c0_i32_15 : BitVec 32 := 0#32
  let c16_i32 : BitVec 32 := 16#32
  let v18 : BitVec 32 := Scalar.select v17 c0_i32_15 c16_i32
  let v19 : BitVec 32 := Scalar.subi v18 c0_i32_17
  let c1_i32_18 : BitVec 32 := 1#32
  let v21 : BitVec 32 := Scalar.divsi v19 c1_i32_18
  let v22 : BitVec 32 := Scalar.muli v21 c1_i32_18
  let v23 : BitVec 32 := Scalar.addi c0_i32_17 v22
  let c1_i32_20 : BitVec 32 := 1#32
  let arg9 : BitVec 32 := Scf.iv v23 c1_i32_20 k0_t4
  let c512_i32 : BitVec 32 := 512#32
  let v79 : BitVec 32 := Scalar.muli arg9 c512_i32
  let v80 : BitVec 32 := Scalar.addi c256_i32 v79
  v80
def k0_off8 (i : grid0.Coords) (k0_t4 : Fin (k0_t4_loop i).trips) : Fin 3 → Nat :=
  let c0_60 : Index := 0#32
  let c256_i32 : BitVec 32 := 256#32
  let c0_i32_17 : BitVec 32 := 0#32
  let arg1 : BitVec 32 := BitVec.ofNat 32 (i 1).val
  let c1_i32_14 : BitVec 32 := 1#32
  let v17 : BitVec 1 := Scalar.cmpi .slt arg1 c1_i32_14
  let c0_i32_15 : BitVec 32 := 0#32
  let c16_i32 : BitVec 32 := 16#32
  let v18 : BitVec 32 := Scalar.select v17 c0_i32_15 c16_i32
  let v19 : BitVec 32 := Scalar.subi v18 c0_i32_17
  let c1_i32_18 : BitVec 32 := 1#32
  let v21 : BitVec 32 := Scalar.divsi v19 c1_i32_18
  let v22 : BitVec 32 := Scalar.muli v21 c1_i32_18
  let v23 : BitVec 32 := Scalar.addi c0_i32_17 v22
  let c1_i32_20 : BitVec 32 := 1#32
  let arg9 : BitVec 32 := Scf.iv v23 c1_i32_20 k0_t4
  let c512_i32 : BitVec 32 := 512#32
  let v79 : BitVec 32 := Scalar.muli arg9 c512_i32
  let v80 : BitVec 32 := Scalar.addi c256_i32 v79
  let v81 : BitVec 32 := v80
  let v82 : Index := Scalar.indexCast v81
  let c0_61 : Index := 0#32
  ![0, v82.toNat, 0]
@[reducible] def k0_t5_loop : Scf.Loop 32 :=
  let c0_i32_65 : BitVec 32 := 0#32
  let c8_i32_66 : BitVec 32 := 8#32
  let v88 : BitVec 32 := Scalar.addi c0_i32_65 c8_i32_66
  let c1_i32_67 : BitVec 32 := 1#32
  ⟨c0_i32_65, v88, c1_i32_67⟩
def k0_mult5 (k0_t5 : Fin k0_t5_loop.trips) : BitVec 32 :=
  let c0_i32_65 : BitVec 32 := 0#32
  let c1_i32_67 : BitVec 32 := 1#32
  let arg10 : BitVec 32 := Scf.iv c0_i32_65 c1_i32_67 k0_t5
  let c256_i32_69 : BitVec 32 := 256#32
  let v89 : BitVec 32 := Scalar.muli arg10 c256_i32_69
  v89
def k0_off9 (k0_t5 : Fin k0_t5_loop.trips) : Fin 4 → Nat :=
  let c0_70 : Index := 0#32
  let c0_i32_65 : BitVec 32 := 0#32
  let c1_i32_67 : BitVec 32 := 1#32
  let arg10 : BitVec 32 := Scf.iv c0_i32_65 c1_i32_67 k0_t5
  let v91 : Index := Scalar.indexCast arg10
  let c0_71 : Index := 0#32
  let c0_72 : Index := 0#32
  ![0, v91.toNat, 0, 0]
def k0_off10 (k0_t5 : Fin k0_t5_loop.trips) : Fin 2 → Nat :=
  let c0_i32_65 : BitVec 32 := 0#32
  let c1_i32_67 : BitVec 32 := 1#32
  let arg10 : BitVec 32 := Scf.iv c0_i32_65 c1_i32_67 k0_t5
  let c256_i32_69 : BitVec 32 := 256#32
  let v89 : BitVec 32 := Scalar.muli arg10 c256_i32_69
  let v90 : BitVec 32 := v89
  let v95 : Index := Scalar.indexCast v90
  let c0_74 : Index := 0#32
  ![v95.toNat, 0]
def k0_off11 (k0_t5 : Fin k0_t5_loop.trips) : Fin 2 → Nat :=
  let c0_i32_65 : BitVec 32 := 0#32
  let c1_i32_67 : BitVec 32 := 1#32
  let arg10 : BitVec 32 := Scf.iv c0_i32_65 c1_i32_67 k0_t5
  let c256_i32_69 : BitVec 32 := 256#32
  let v89 : BitVec 32 := Scalar.muli arg10 c256_i32_69
  let v90 : BitVec 32 := v89
  let v115 : Index := Scalar.indexCast v90
  let c0_79 : Index := 0#32
  ![v115.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x8x8448x128 : Shape := ⟨4, ![2, 8, 8448, 128]⟩
abbrev S2x8448x128 : Shape := ⟨3, ![2, 8448, 128]⟩
abbrev S2x4x8448x64 : Shape := ⟨4, ![2, 4, 8448, 64]⟩
abbrev S2x8x8448x64 : Shape := ⟨4, ![2, 8, 8448, 64]⟩
abbrev S2x8448x8x64 : Shape := ⟨4, ![2, 8448, 8, 64]⟩
abbrev S2x8448x2x64 : Shape := ⟨4, ![2, 8448, 2, 64]⟩
abbrev S2x256x8x64 : Shape := ⟨4, ![2, 256, 8, 64]⟩
abbrev S2x256x2x64 : Shape := ⟨4, ![2, 256, 2, 64]⟩
abbrev S2x256x2x4x64 : Shape := ⟨5, ![2, 256, 2, 4, 64]⟩
abbrev S2x2x256x256x4 : Shape := ⟨5, ![2, 2, 256, 256, 4]⟩
abbrev S2x2x4x256x256 : Shape := ⟨5, ![2, 2, 4, 256, 256]⟩
abbrev S_ : Shape := ⟨0, ![]⟩
abbrev S2x2x4x256 : Shape := ⟨4, ![2, 2, 4, 256]⟩
abbrev S2x2x4x256x1 : Shape := ⟨5, ![2, 2, 4, 256, 1]⟩
abbrev S2x2x64x4x256 : Shape := ⟨5, ![2, 2, 64, 4, 256]⟩
abbrev S2x256x512 : Shape := ⟨3, ![2, 256, 512]⟩
abbrev S2x8192x8x64 : Shape := ⟨4, ![2, 8192, 8, 64]⟩
abbrev S2x8192x2x4x64 : Shape := ⟨5, ![2, 8192, 2, 4, 64]⟩
abbrev S2x2x8448x8192x4 : Shape := ⟨5, ![2, 2, 8448, 8192, 4]⟩
abbrev S2x2x4x8192x8448 : Shape := ⟨5, ![2, 2, 4, 8192, 8448]⟩
abbrev S2x2x4x8192 : Shape := ⟨4, ![2, 2, 4, 8192]⟩
abbrev S2x2x4x8192x1 : Shape := ⟨5, ![2, 2, 4, 8192, 1]⟩
abbrev S2x2x64x4x8192 : Shape := ⟨5, ![2, 2, 64, 4, 8192]⟩
abbrev S2x8192x512 : Shape := ⟨3, ![2, 8192, 512]⟩
abbrev S2x8448x512 : Shape := ⟨3, ![2, 8448, 512]⟩

abbrev nBuf : Space → Nat
  | .hbm => 57
  | .vmem => 0
  | .smem => 0
  | _ => 0

abbrev bufTy : (tb : Table) → Fin (tcTables nBuf tb) → BufTy
  | .hbm, ⟨0, _⟩ => ⟨S2x8x8448x128, .bf16⟩
  | .hbm, ⟨1, _⟩ => ⟨S2x8448x128, .bf16⟩
  | .hbm, ⟨2, _⟩ => ⟨S2x8448x128, .bf16⟩
  | .hbm, ⟨3, _⟩ => ⟨S2x8x8448x128, .f32⟩
  | .hbm, ⟨4, _⟩ => ⟨S2x8448x128, .f32⟩
  | .hbm, ⟨5, _⟩ => ⟨S2x8448x128, .f32⟩
  | .hbm, ⟨6, _⟩ => ⟨S2x4x8448x64, .f32⟩
  | .hbm, ⟨7, _⟩ => ⟨S2x4x8448x64, .f32⟩
  | .hbm, ⟨8, _⟩ => ⟨S2x8x8448x64, .f32⟩
  | .hbm, ⟨9, _⟩ => ⟨S2x8448x8x64, .f32⟩
  | .hbm, ⟨10, _⟩ => ⟨S2x8448x2x64, .f32⟩
  | .hbm, ⟨11, _⟩ => ⟨S2x8448x2x64, .f32⟩
  | .hbm, ⟨12, _⟩ => ⟨S2x256x8x64, .f32⟩
  | .hbm, ⟨13, _⟩ => ⟨S2x256x2x64, .f32⟩
  | .hbm, ⟨14, _⟩ => ⟨S2x256x2x64, .f32⟩
  | .hbm, ⟨15, _⟩ => ⟨S2x256x2x4x64, .f32⟩
  | .hbm, ⟨16, _⟩ => ⟨S2x2x256x256x4, .f32⟩
  | .hbm, ⟨17, _⟩ => ⟨S2x2x4x256x256, .f32⟩
  | .hbm, ⟨18, _⟩ => ⟨S_, .f32⟩
  | .hbm, ⟨19, _⟩ => ⟨S2x2x4x256, .f32⟩
  | .hbm, ⟨20, _⟩ => ⟨S_, .f32⟩
  | .hbm, ⟨21, _⟩ => ⟨S2x2x4x256, .f32⟩
  | .hbm, ⟨22, _⟩ => ⟨S2x2x4x256, .f32⟩
  | .hbm, ⟨23, _⟩ => ⟨S2x2x4x256x1, .f32⟩
  | .hbm, ⟨24, _⟩ => ⟨S2x2x4x256x256, .f32⟩
  | .hbm, ⟨25, _⟩ => ⟨S2x2x4x256x256, .f32⟩
  | .hbm, ⟨26, _⟩ => ⟨S2x2x4x256x256, .f32⟩
  | .hbm, ⟨27, _⟩ => ⟨S_, .f32⟩
  | .hbm, ⟨28, _⟩ => ⟨S2x2x4x256, .f32⟩
  | .hbm, ⟨29, _⟩ => ⟨S2x2x4x256x1, .f32⟩
  | .hbm, ⟨30, _⟩ => ⟨S2x2x4x256x256, .f32⟩
  | .hbm, ⟨31, _⟩ => ⟨S2x2x4x256x256, .f32⟩
  | .hbm, ⟨32, _⟩ => ⟨S2x2x64x4x256, .f32⟩
  | .hbm, ⟨33, _⟩ => ⟨S2x256x2x4x64, .f32⟩
  | .hbm, ⟨34, _⟩ => ⟨S2x256x512, .f32⟩
  | .hbm, ⟨35, _⟩ => ⟨S2x8192x8x64, .f32⟩
  | .hbm, ⟨36, _⟩ => ⟨S2x8192x2x4x64, .f32⟩
  | .hbm, ⟨37, _⟩ => ⟨S2x2x8448x8192x4, .f32⟩
  | .hbm, ⟨38, _⟩ => ⟨S2x2x4x8192x8448, .f32⟩
  | .hbm, ⟨39, _⟩ => ⟨S_, .f32⟩
  | .hbm, ⟨40, _⟩ => ⟨S2x2x4x8192, .f32⟩
  | .hbm, ⟨41, _⟩ => ⟨S_, .f32⟩
  | .hbm, ⟨42, _⟩ => ⟨S2x2x4x8192, .f32⟩
  | .hbm, ⟨43, _⟩ => ⟨S2x2x4x8192, .f32⟩
  | .hbm, ⟨44, _⟩ => ⟨S2x2x4x8192x1, .f32⟩
  | .hbm, ⟨45, _⟩ => ⟨S2x2x4x8192x8448, .f32⟩
  | .hbm, ⟨46, _⟩ => ⟨S2x2x4x8192x8448, .f32⟩
  | .hbm, ⟨47, _⟩ => ⟨S2x2x4x8192x8448, .f32⟩
  | .hbm, ⟨48, _⟩ => ⟨S_, .f32⟩
  | .hbm, ⟨49, _⟩ => ⟨S2x2x4x8192, .f32⟩
  | .hbm, ⟨50, _⟩ => ⟨S2x2x4x8192x1, .f32⟩
  | .hbm, ⟨51, _⟩ => ⟨S2x2x4x8192x8448, .f32⟩
  | .hbm, ⟨52, _⟩ => ⟨S2x2x4x8192x8448, .f32⟩
  | .hbm, ⟨53, _⟩ => ⟨S2x2x64x4x8192, .f32⟩
  | .hbm, ⟨54, _⟩ => ⟨S2x8192x2x4x64, .f32⟩
  | .hbm, ⟨55, _⟩ => ⟨S2x8192x512, .f32⟩
  | .hbm, ⟨56, _⟩ => ⟨S2x8448x512, .f32⟩
  | _, _ => ⟨S2x8x8448x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]
-- ==== Kernel2.lean ====
abbrev S2x8448x1024 : Shape := ⟨3, ![2, 8448, 1024]⟩
abbrev S8x6144 : Shape := ⟨2, ![8, 6144]⟩
abbrev S1x1024 : Shape := ⟨2, ![1, 1024]⟩
abbrev S1024x2816 : Shape := ⟨2, ![1024, 2816]⟩
abbrev S2816x1024 : Shape := ⟨2, ![2816, 1024]⟩
abbrev S1x256x1024 : Shape := ⟨3, ![1, 256, 1024]⟩
abbrev S1x6144 : Shape := ⟨2, ![1, 6144]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 8
  | .vmem => 10
  | .smem => 0
  | _ => 0

abbrev bufTy : (tb : Table) → Fin (tcTables nBuf tb) → BufTy
  | .hbm, ⟨0, _⟩ => ⟨S2x8448x1024, .f32⟩
  | .hbm, ⟨1, _⟩ => ⟨S8x6144, .f32⟩
  | .hbm, ⟨2, _⟩ => ⟨S1x1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1x1024, .f32⟩
  | .hbm, ⟨7, _⟩ => ⟨S2x8448x1024, .f32⟩
  | .local _ .vmem, ⟨0, _⟩ => ⟨S1x256x1024, .f32⟩
  | .local _ .vmem, ⟨1, _⟩ => ⟨S1x256x1024, .f32⟩
  | .local _ .vmem, ⟨2, _⟩ => ⟨S8x6144, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S1x256x1024, .f32⟩
  | .local _ .vmem, ⟨9, _⟩ => ⟨S1x256x1024, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![2, 33], ![false, false]⟩

def k0_off1 (i : grid0.Coords) : Fin 2 → Nat :=
  let arg1 : BitVec 32 := BitVec.ofNat 32 (i 1).val
  let c0_i32 : BitVec 32 := 0#32
  let v0 : BitVec 32 := Scalar.addi arg1 c0_i32
  let c1_i32 : BitVec 32 := 1#32
  let v1 : BitVec 1 := Scalar.cmpi .slt v0 c1_i32
  let c2_i32 : BitVec 32 := 2#32
  let arg0 : BitVec 32 := BitVec.ofNat 32 (i 0).val
  let v2 : BitVec 32 := Scalar.select v1 c2_i32 arg0
  let v3 : Index := Scalar.indexCast v2
  let c0 : Index := 0#32
  ![v3.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S2x8448x1024 : Shape := ⟨3, ![2, 8448, 1024]⟩
abbrev S8x6144 : Shape := ⟨2, ![8, 6144]⟩
abbrev S1x1024 : Shape := ⟨2, ![1, 1024]⟩
abbrev S1024x2816 : Shape := ⟨2, ![1024, 2816]⟩
abbrev S2816x1024 : Shape := ⟨2, ![2816, 1024]⟩
abbrev S2x256x1024 : Shape := ⟨3, ![2, 256, 1024]⟩
abbrev S1x6144 : Shape := ⟨2, ![1, 6144]⟩
abbrev S6144 : Shape := ⟨1, ![6144]⟩
abbrev S1x1x6144 : Shape := ⟨3, ![1, 1, 6144]⟩
abbrev S1024 : Shape := ⟨1, ![1024]⟩
abbrev S1x1x1024 : Shape := ⟨3, ![1, 1, 1024]⟩
abbrev S_ : Shape := ⟨0, ![]⟩
abbrev S2x256 : Shape := ⟨2, ![2, 256]⟩
abbrev S2x256x1 : Shape := ⟨3, ![2, 256, 1]⟩
abbrev S2x256x2816 : Shape := ⟨3, ![2, 256, 2816]⟩
abbrev S2x8192x1024 : Shape := ⟨3, ![2, 8192, 1024]⟩
abbrev S2x6144 : Shape := ⟨2, ![2, 6144]⟩
abbrev S2x1x6144 : Shape := ⟨3, ![2, 1, 6144]⟩
abbrev S2x1x1024 : Shape := ⟨3, ![2, 1, 1024]⟩
abbrev S2x8192 : Shape := ⟨2, ![2, 8192]⟩
abbrev S2x8192x1 : Shape := ⟨3, ![2, 8192, 1]⟩
abbrev S2x8192x2816 : Shape := ⟨3, ![2, 8192, 2816]⟩

abbrev nBuf : Space → Nat
  | .hbm => 110
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S8x6144, .f32⟩
  | .hbm, ⟨2, _⟩ => ⟨S1x1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S2x256x1024, .f32⟩
  | .hbm, ⟨11, _⟩ => ⟨S1x6144, .f32⟩
  | .hbm, ⟨12, _⟩ => ⟨S6144, .f32⟩
  | .hbm, ⟨13, _⟩ => ⟨S1x1x6144, .f32⟩
  | .hbm, ⟨14, _⟩ => ⟨S1024, .f32⟩
  | .hbm, ⟨15, _⟩ => ⟨S1x1x1024, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S1x1x1024, .f32⟩
  | .hbm, ⟨20, _⟩ => ⟨S1x1x1024, .f32⟩
  | .hbm, ⟨21, _⟩ => ⟨S2x256x1024, .f32⟩
  | .hbm, ⟨22, _⟩ => ⟨S_, .f32⟩
  | .hbm, ⟨23, _⟩ => ⟨S2x256, .f32⟩
  | .hbm, ⟨24, _⟩ => ⟨S2x256x1, .f32⟩
  | .hbm, ⟨25, _⟩ => ⟨S_, .f32⟩
  | .hbm, ⟨26, _⟩ => ⟨S2x256x1, .f32⟩
  | .hbm, ⟨27, _⟩ => ⟨S2x256x1, .f32⟩
  | .hbm, ⟨28, _⟩ => ⟨S_, .f32⟩
  | .hbm, ⟨29, _⟩ => ⟨S2x256x1, .f32⟩
  | .hbm, ⟨30, _⟩ => ⟨S2x256x1, .f32⟩
  | .hbm, ⟨31, _⟩ => ⟨S2x256x1, .f32⟩
  | .hbm, ⟨32, _⟩ => ⟨S2x256x1024, .f32⟩
  | .hbm, ⟨33, _⟩ => ⟨S2x256x1024, .f32⟩
  | .hbm, ⟨34, _⟩ => ⟨S1x1x1024, .f32⟩
  | .hbm, ⟨35, _⟩ => ⟨S2x256x1024, .f32⟩
  | .hbm, ⟨36, _⟩ => ⟨S2x256x1024, .f32⟩
  | .hbm, ⟨37, _⟩ => ⟨S_, .f32⟩
  | .hbm, ⟨38, _⟩ => ⟨S1x1x1024, .f32⟩
  | .hbm, ⟨39, _⟩ => ⟨S1x1x1024, .f32⟩
  | .hbm, ⟨40, _⟩ => ⟨S2x256x1024, .f32⟩
  | .hbm, ⟨41, _⟩ => ⟨S2x256x1024, .f32⟩
  | .hbm, ⟨42, _⟩ => ⟨S2x256x1024, .f32⟩
  | .hbm, ⟨43, _⟩ => ⟨S2x256x1024, .f32⟩
  | .hbm, ⟨44, _⟩ => ⟨S2x256x2816, .f32⟩
  | .hbm, ⟨45, _⟩ => ⟨S2x256x2816, .f32⟩
  | .hbm, ⟨46, _⟩ => ⟨S2x256x2816, .f32⟩
  | .hbm, ⟨47, _⟩ => ⟨S_, .f32⟩
  | .hbm, ⟨48, _⟩ => ⟨S2x256x2816, .f32⟩
  | .hbm, ⟨49, _⟩ => ⟨S2x256x2816, .f32⟩
  | .hbm, ⟨50, _⟩ => ⟨S_, .f32⟩
  | .hbm, ⟨51, _⟩ => ⟨S2x256x2816, .f32⟩
  | .hbm, ⟨52, _⟩ => ⟨S2x256x2816, .f32⟩
  | .hbm, ⟨53, _⟩ => ⟨S2x256x2816, .f32⟩
  | .hbm, ⟨54, _⟩ => ⟨S2x256x2816, .f32⟩
  | .hbm, ⟨55, _⟩ => ⟨S2x256x2816, .f32⟩
  | .hbm, ⟨56, _⟩ => ⟨S2x256x1024, .f32⟩
  | .hbm, ⟨57, _⟩ => ⟨S2x256x1024, .f32⟩
  | .hbm, ⟨58, _⟩ => ⟨S2x256x1024, .f32⟩
  | .hbm, ⟨59, _⟩ => ⟨S2x256x1024, .f32⟩
  | .hbm, ⟨60, _⟩ => ⟨S2x8192x1024, .f32⟩
  | .hbm, ⟨61, _⟩ => ⟨S2x6144, .f32⟩
  | .hbm, ⟨62, _⟩ => ⟨S2x1x6144, .f32⟩
  | .hbm, ⟨63, _⟩ => ⟨S1024, .f32⟩
  | .hbm, ⟨64, _⟩ => ⟨S2x1x1024, .f32⟩
  | .hbm, ⟨65, _⟩ => ⟨S2x1x1024, .f32⟩
  | .hbm, ⟨66, _⟩ => ⟨S2x1x1024, .f32⟩
  | .hbm, ⟨67, _⟩ => ⟨S2x1x1024, .f32⟩
  | .hbm, ⟨68, _⟩ => ⟨S2x1x1024, .f32⟩
  | .hbm, ⟨69, _⟩ => ⟨S2x1x1024, .f32⟩
  | .hbm, ⟨70, _⟩ => ⟨S2x8192x1024, .f32⟩
  | .hbm, ⟨71, _⟩ => ⟨S_, .f32⟩
  | .hbm, ⟨72, _⟩ => ⟨S2x8192, .f32⟩
  | .hbm, ⟨73, _⟩ => ⟨S2x8192x1, .f32⟩
  | .hbm, ⟨74, _⟩ => ⟨S_, .f32⟩
  | .hbm, ⟨75, _⟩ => ⟨S2x8192x1, .f32⟩
  | .hbm, ⟨76, _⟩ => ⟨S2x8192x1, .f32⟩
  | .hbm, ⟨77, _⟩ => ⟨S_, .f32⟩
  | .hbm, ⟨78, _⟩ => ⟨S2x8192x1, .f32⟩
  | .hbm, ⟨79, _⟩ => ⟨S2x8192x1, .f32⟩
  | .hbm, ⟨80, _⟩ => ⟨S2x8192x1, .f32⟩
  | .hbm, ⟨81, _⟩ => ⟨S2x8192x1024, .f32⟩
  | .hbm, ⟨82, _⟩ => ⟨S2x8192x1024, .f32⟩
  | .hbm, ⟨83, _⟩ => ⟨S1x1x1024, .f32⟩
  | .hbm, ⟨84, _⟩ => ⟨S2x8192x1024, .f32⟩
  | .hbm, ⟨85, _⟩ => ⟨S2x8192x1024, .f32⟩
  | .hbm, ⟨86, _⟩ => ⟨S_, .f32⟩
  | .hbm, ⟨87, _⟩ => ⟨S2x1x1024, .f32⟩
  | .hbm, ⟨88, _⟩ => ⟨S2x1x1024, .f32⟩
  | .hbm, ⟨89, _⟩ => ⟨S2x8192x1024, .f32⟩
  | .hbm, ⟨90, _⟩ => ⟨S2x8192x1024, .f32⟩
  | .hbm, ⟨91, _⟩ => ⟨S2x8192x1024, .f32⟩
  | .hbm, ⟨92, _⟩ => ⟨S2x8192x1024, .f32⟩
  | .hbm, ⟨93, _⟩ => ⟨S2x8192x2816, .f32⟩
  | .hbm, ⟨94, _⟩ => ⟨S2x8192x2816, .f32⟩
  | .hbm, ⟨95, _⟩ => ⟨S2x8192x2816, .f32⟩
  | .hbm, ⟨96, _⟩ => ⟨S_, .f32⟩
  | .hbm, ⟨97, _⟩ => ⟨S2x8192x2816, .f32⟩
  | .hbm, ⟨98, _⟩ => ⟨S2x8192x2816, .f32⟩
  | .hbm, ⟨99, _⟩ => ⟨S_, .f32⟩
  | .hbm, ⟨100, _⟩ => ⟨S2x8192x2816, .f32⟩
  | .hbm, ⟨101, _⟩ => ⟨S2x8192x2816, .f32⟩
  | .hbm, ⟨102, _⟩ => ⟨S2x8192x2816, .f32⟩
  | .hbm, ⟨103, _⟩ => ⟨S2x8192x2816, .f32⟩
  | .hbm, ⟨104, _⟩ => ⟨S2x8192x2816, .f32⟩
  | .hbm, ⟨105, _⟩ => ⟨S2x8192x1024, .f32⟩
  | .hbm, ⟨106, _⟩ => ⟨S2x8192x1024, .f32⟩
  | .hbm, ⟨107, _⟩ => ⟨S2x8192x1024, .f32⟩
  | .hbm, ⟨108, _⟩ => ⟨S2x8192x1024, .f32⟩
  | .hbm, ⟨109, _⟩ => ⟨S2x8448x1024, .f32⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_3 : Ref sig .tc := ⟨.hbm, 71, rfl⟩
abbrev main_v52 : Ref sig .tc := ⟨.hbm, 72, rfl⟩
abbrev main_v53 : Ref sig .tc := ⟨.hbm, 73, rfl⟩
abbrev main_cst_4 : Ref sig .tc := ⟨.hbm, 74, rfl⟩
abbrev main_v54 : Ref sig .tc := ⟨.hbm, 75, rfl⟩
abbrev main_v55 : Ref sig .tc := ⟨.hbm, 76, rfl⟩
abbrev main_cst_5 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_6 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_call1_v0 : Ref sig .tc := ⟨.hbm, 94, rfl⟩
abbrev main_call1_v1 : Ref sig .tc := ⟨.hbm, 95, rfl⟩
abbrev main_call1_cst : Ref sig .tc := ⟨.hbm, 96, rfl⟩
abbrev main_call1_v2 : Ref sig .tc := ⟨.hbm, 97, rfl⟩
abbrev main_call1_v3 : Ref sig .tc := ⟨.hbm, 98, rfl⟩
abbrev main_call1_cst_0 : Ref sig .tc := ⟨.hbm, 99, rfl⟩
abbrev main_call1_v4 : Ref sig .tc := ⟨.hbm, 100, rfl⟩
abbrev main_call1_v5 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩

abbrev nD : Nat := 1
abbrev τ : Topo := Topo.v7x

variable {F : FTy → Type} [FloatOps F]
-- ==== Kernel3.lean ====
abbrev S2x8192x1024 : Shape := ⟨3, ![2, 8192, 1024]⟩
abbrev S8x6144 : Shape := ⟨2, ![8, 6144]⟩
abbrev S1x1024 : Shape := ⟨2, ![1, 1024]⟩
abbrev S1024x2816 : Shape := ⟨2, ![1024, 2816]⟩
abbrev S2816x1024 : Shape := ⟨2, ![2816, 1024]⟩
abbrev S1x256x1024 : Shape := ⟨3, ![1, 256, 1024]⟩
abbrev S1x6144 : Shape := ⟨2, ![1, 6144]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 8
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S8x6144, .f32⟩
  | .hbm, ⟨2, _⟩ => ⟨S1x1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1x1024, .f32⟩
  | .hbm, ⟨7, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S8x6144, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S1x256x1024, .f32⟩
  | .local _ .vmem, ⟨9, _⟩ => ⟨S1x256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![2, 32], ![false, false]⟩

def k0_off1 (i : grid0.Coords) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 1 := Scalar.cmpi .slt v0 c1_i32_0
  let c2_i32 : BitVec 32 := 2#32
  let arg0 : BitVec 32 := BitVec.ofNat 32 (i 0).val
  let v2 : BitVec 32 := Scalar.select v1 c2_i32 arg0
  let v3 : Index := Scalar.indexCast v2
  let c0 : Index := 0#32
  ![v3.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S2x8192x1024 : Shape := ⟨3, ![2, 8192, 1024]⟩
abbrev S8x6144 : Shape := ⟨2, ![8, 6144]⟩
abbrev S1x1024 : Shape := ⟨2, ![1, 1024]⟩
abbrev S1024x2816 : Shape := ⟨2, ![1024, 2816]⟩
abbrev S2816x1024 : Shape := ⟨2, ![2816, 1024]⟩
abbrev S2x6144 : Shape := ⟨2, ![2, 6144]⟩
abbrev S2x1x6144 : Shape := ⟨3, ![2, 1, 6144]⟩
abbrev S1024 : Shape := ⟨1, ![1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩

abbrev nBuf : Space → Nat
  | .hbm => 75
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S8x6144, .f32⟩
  | .hbm, ⟨2, _⟩ => ⟨S1x1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S2x6144, .f32⟩
  | .hbm, ⟨11, _⟩ => ⟨S2x1x6144, .f32⟩
  | .hbm, ⟨12, _⟩ => ⟨S1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x8192x1024, .f32⟩
  | .hbm, ⟨20, _⟩ => ⟨S_, .f32⟩
  | .hbm, ⟨21, _⟩ => ⟨S2x8192, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S2x8192x1, .f32⟩
  | .hbm, ⟨30, _⟩ => ⟨S2x8192x1024, .f32⟩
  | .hbm, ⟨31, _⟩ => ⟨S2x8192x1024, .f32⟩
  | .hbm, ⟨32, _⟩ => ⟨S1x1x1024, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x1x1024, .f32⟩
  | .hbm, ⟨37, _⟩ => ⟨S2x1x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S2x8192x2816, .f32⟩
  | .hbm, ⟨43, _⟩ => ⟨S2x8192x2816, .f32⟩
  | .hbm, ⟨44, _⟩ => ⟨S2x8192x2816, .f32⟩
  | .hbm, ⟨45, _⟩ => ⟨S_, .f32⟩
  | .hbm, ⟨46, _⟩ => ⟨S2x8192x2816, .f32⟩
  | .hbm, ⟨47, _⟩ => ⟨S2x8192x2816, .f32⟩
  | .hbm, ⟨48, _⟩ => ⟨S_, .f32⟩
  | .hbm, ⟨49, _⟩ => ⟨S2x8192x2816, .f32⟩
  | .hbm, ⟨50, _⟩ => ⟨S2x8192x2816, .f32⟩
  | .hbm, ⟨51, _⟩ => ⟨S2x8192x2816, .f32⟩
  | .hbm, ⟨52, _⟩ => ⟨S2x8192x2816, .f32⟩
  | .hbm, ⟨53, _⟩ => ⟨S2x8192x2816, .f32⟩
  | .hbm, ⟨54, _⟩ => ⟨S2x8192x1024, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S1024, .f32⟩
  | .hbm, ⟨59, _⟩ => ⟨S2x8192x1024, .f32⟩
  | .hbm, ⟨60, _⟩ => ⟨S_, .f32⟩
  | .hbm, ⟨61, _⟩ => ⟨S2x8192, .f32⟩
  | .hbm, ⟨62, _⟩ => ⟨S2x8192x1, .f32⟩
  | .hbm, ⟨63, _⟩ => ⟨S_, .f32⟩
  | .hbm, ⟨64, _⟩ => ⟨S2x8192x1, .f32⟩
  | .hbm, ⟨65, _⟩ => ⟨S2x8192x1, .f32⟩
  | .hbm, ⟨66, _⟩ => ⟨S_, .f32⟩
  | .hbm, ⟨67, _⟩ => ⟨S2x8192x1, .f32⟩
  | .hbm, ⟨68, _⟩ => ⟨S2x8192x1, .f32⟩
  | .hbm, ⟨69, _⟩ => ⟨S2x8192x1, .f32⟩
  | .hbm, ⟨70, _⟩ => ⟨S2x8192x1024, .f32⟩
  | .hbm, ⟨71, _⟩ => ⟨S2x8192x1024, .f32⟩
  | .hbm, ⟨72, _⟩ => ⟨S1x1x1024, .f32⟩
  | .hbm, ⟨73, _⟩ => ⟨S2x8192x1024, .f32⟩
  | .hbm, ⟨74, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_3 : Ref sig .tc := ⟨.hbm, 60, rfl⟩
abbrev main_v41 : Ref sig .tc := ⟨.hbm, 61, rfl⟩
abbrev main_v42 : Ref sig .tc := ⟨.hbm, 62, rfl⟩
abbrev main_cst_4 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Kernel4.lean ====
abbrev S2x8448x1024 : Shape := ⟨3, ![2, 8448, 1024]⟩
abbrev S8x6144 : Shape := ⟨2, ![8, 6144]⟩
abbrev S2x8448x512 : Shape := ⟨3, ![2, 8448, 512]⟩
abbrev S2x8448x256 : Shape := ⟨3, ![2, 8448, 256]⟩
abbrev S1x1024 : Shape := ⟨2, ![1, 1024]⟩
abbrev S1024x1024 : Shape := ⟨2, ![1024, 1024]⟩
abbrev S128x128 : Shape := ⟨2, ![128, 128]⟩
abbrev S1x256x1024 : Shape := ⟨3, ![1, 256, 1024]⟩
abbrev S1x256x512 : Shape := ⟨3, ![1, 256, 512]⟩
abbrev S1x256x256 : Shape := ⟨3, ![1, 256, 256]⟩
abbrev S1x6144 : Shape := ⟨2, ![1, 6144]⟩
abbrev S256x512 : Shape := ⟨2, ![256, 512]⟩
abbrev S1x512 : Shape := ⟨2, ![1, 512]⟩
abbrev S256x128 : Shape := ⟨2, ![256, 128]⟩
abbrev S256x256 : Shape := ⟨2, ![256, 256]⟩
abbrev S1x256 : Shape := ⟨2, ![1, 256]⟩
abbrev S256x1024 : Shape := ⟨2, ![256, 1024]⟩

abbrev nBuf : Space → Nat
  | .hbm => 11
  | .vmem => 18
  | .smem => 0
  | _ => 0

abbrev bufTy : (tb : Table) → Fin (tcTables nBuf tb) → BufTy
  | .hbm, ⟨0, _⟩ => ⟨S2x8448x1024, .f32⟩
  | .hbm, ⟨1, _⟩ => ⟨S8x6144, .f32⟩
  | .hbm, ⟨2, _⟩ => ⟨S2x8448x512, .f32⟩
  | .hbm, ⟨3, _⟩ => ⟨S2x8448x256, .f32⟩
  | .hbm, ⟨4, _⟩ => ⟨S2x8448x256, .f32⟩
  | .hbm, ⟨5, _⟩ => ⟨S2x8448x256, .f32⟩
  | .hbm, ⟨6, _⟩ => ⟨S2x8448x256, .f32⟩
  | .hbm, ⟨7, _⟩ => ⟨S1x1024, .f32⟩
  | .hbm, ⟨8, _⟩ => ⟨S1024x1024, .bf16⟩
  | .hbm, ⟨9, _⟩ => ⟨S128x128, .bf16⟩
  | .hbm, ⟨10, _⟩ => ⟨S2x8448x1024, .f32⟩
  | .local _ .vmem, ⟨0, _⟩ => ⟨S1x256x1024, .f32⟩
  | .local _ .vmem, ⟨1, _⟩ => ⟨S1x256x1024, .f32⟩
  | .local _ .vmem, ⟨2, _⟩ => ⟨S8x6144, .f32⟩
  | .local _ .vmem, ⟨3, _⟩ => ⟨S1x256x512, .f32⟩
  | .local _ .vmem, ⟨4, _⟩ => ⟨S1x256x512, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x1024, .f32⟩
  | .local _ .vmem, ⟨14, _⟩ => ⟨S128x128, .bf16⟩
  | .local _ .vmem, ⟨15, _⟩ => ⟨S1024x1024, .bf16⟩
  | .local _ .vmem, ⟨16, _⟩ => ⟨S1x256x1024, .f32⟩
  | .local _ .vmem, ⟨17, _⟩ => ⟨S1x256x1024, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 33], ![false, false]⟩

def k0_off1 (i : grid0.Coords) : Fin 2 → Nat :=
  let arg1 : BitVec 32 := BitVec.ofNat 32 (i 1).val
  let c0_i32 : BitVec 32 := 0#32
  let v0 : BitVec 32 := Scalar.addi arg1 c0_i32
  let c1_i32 : BitVec 32 := 1#32
  let v1 : BitVec 1 := Scalar.cmpi .slt v0 c1_i32
  let c2_i32 : BitVec 32 := 2#32
  let arg0 : BitVec 32 := BitVec.ofNat 32 (i 0).val
  let v2 : BitVec 32 := Scalar.select v1 c2_i32 arg0
  let v3 : Index := Scalar.indexCast v2
  let c0 : Index := 0#32
  ![v3.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S2x8448x1024 : Shape := ⟨3, ![2, 8448, 1024]⟩
abbrev S8x6144 : Shape := ⟨2, ![8, 6144]⟩
abbrev S2x8448x512 : Shape := ⟨3, ![2, 8448, 512]⟩
abbrev S2x8448x256 : Shape := ⟨3, ![2, 8448, 256]⟩
abbrev S1x1024 : Shape := ⟨2, ![1, 1024]⟩
abbrev S1024x1024 : Shape := ⟨2, ![1024, 1024]⟩
abbrev S1024 : Shape := ⟨1, ![1024]⟩
abbrev S512 : Shape := ⟨1, ![512]⟩
abbrev S2x8448x8x64 : Shape := ⟨4, ![2, 8448, 8, 64]⟩
abbrev S8x64 : Shape := ⟨2, ![8, 64]⟩
abbrev S_ : Shape := ⟨0, ![]⟩
abbrev S2x8448x8 : Shape := ⟨3, ![2, 8448, 8]⟩
abbrev S2x8448x8x1 : Shape := ⟨4, ![2, 8448, 8, 1]⟩
abbrev S1x1x8x64 : Shape := ⟨4, ![1, 1, 8, 64]⟩
abbrev S256 : Shape := ⟨1, ![256]⟩
abbrev S2x8448x4x64 : Shape := ⟨4, ![2, 8448, 4, 64]⟩
abbrev S4x64 : Shape := ⟨2, ![4, 64]⟩
abbrev S2x8448x4 : Shape := ⟨3, ![2, 8448, 4]⟩
abbrev S2x8448x4x1 : Shape := ⟨4, ![2, 8448, 4, 1]⟩
abbrev S1x1x4x64 : Shape := ⟨4, ![1, 1, 4, 64]⟩
abbrev S2x256x1024 : Shape := ⟨3, ![2, 256, 1024]⟩
abbrev S1x6144 : Shape := ⟨2, ![1, 6144]⟩
abbrev S6144 : Shape := ⟨1, ![6144]⟩
abbrev S1x1x6144 : Shape := ⟨3, ![1, 1, 6144]⟩
abbrev S1x1x1024 : Shape := ⟨3, ![1, 1, 1024]⟩
abbrev S2x8192x1024 : Shape := ⟨3, ![2, 8192, 1024]⟩
abbrev S2x6144 : Shape := ⟨2, ![2, 6144]⟩
abbrev S2x1x6144 : Shape := ⟨3, ![2, 1, 6144]⟩
abbrev S2x1x1024 : Shape := ⟨3, ![2, 1, 1024]⟩

abbrev nBuf : Space → Nat
  | .hbm => 112
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S8x6144, .f32⟩
  | .hbm, ⟨2, _⟩ => ⟨S2x8448x512, .f32⟩
  | .hbm, ⟨3, _⟩ => ⟨S2x8448x256, .f32⟩
  | .hbm, ⟨4, _⟩ => ⟨S2x8448x256, .f32⟩
  | .hbm, ⟨5, _⟩ => ⟨S2x8448x256, .f32⟩
  | .hbm, ⟨6, _⟩ => ⟨S2x8448x256, .f32⟩
  | .hbm, ⟨7, _⟩ => ⟨S1x1024, .f32⟩
  | .hbm, ⟨8, _⟩ => ⟨S1024x1024, .bf16⟩
  | .hbm, ⟨9, _⟩ => ⟨S2x8448x256, .f32⟩
  | .hbm, ⟨10, _⟩ => ⟨S1024, .f32⟩
  | .hbm, ⟨11, _⟩ => ⟨S1024x1024, .f32⟩
  | .hbm, ⟨12, _⟩ => ⟨S512, .f32⟩
  | .hbm, ⟨13, _⟩ => ⟨S2x8448x8x64, .f32⟩
  | .hbm, ⟨14, _⟩ => ⟨S8x64, .f32⟩
  | .hbm, ⟨15, _⟩ => ⟨S2x8448x8x64, .f32⟩
  | .hbm, ⟨16, _⟩ => ⟨S_, .f32⟩
  | .hbm, ⟨17, _⟩ => ⟨S2x8448x8, .f32⟩
  | .hbm, ⟨18, _⟩ => ⟨S2x8448x8x1, .f32⟩
  | .hbm, ⟨19, _⟩ => ⟨S_, .f32⟩
  | .hbm, ⟨20, _⟩ => ⟨S2x8448x8x1, .f32⟩
  | .hbm, ⟨21, _⟩ => ⟨S2x8448x8x1, .f32⟩
  | .hbm, ⟨22, _⟩ => ⟨S_, .f32⟩
  | .hbm, ⟨23, _⟩ => ⟨S2x8448x8x1, .f32⟩
  | .hbm, ⟨24, _⟩ => ⟨S2x8448x8x1, .f32⟩
  | .hbm, ⟨25, _⟩ => ⟨S2x8448x8x1, .f32⟩
  | .hbm, ⟨26, _⟩ => ⟨S2x8448x8x64, .f32⟩
  | .hbm, ⟨27, _⟩ => ⟨S2x8448x8x64, .f32⟩
  | .hbm, ⟨28, _⟩ => ⟨S1x1x8x64, .f32⟩
  | .hbm, ⟨29, _⟩ => ⟨S2x8448x8x64, .f32⟩
  | .hbm, ⟨30, _⟩ => ⟨S2x8448x8x64, .f32⟩
  | .hbm, ⟨31, _⟩ => ⟨S2x8448x512, .f32⟩
  | .hbm, ⟨32, _⟩ => ⟨S256, .f32⟩
  | .hbm, ⟨33, _⟩ => ⟨S2x8448x4x64, .f32⟩
  | .hbm, ⟨34, _⟩ => ⟨S4x64, .f32⟩
  | .hbm, ⟨35, _⟩ => ⟨S2x8448x4x64, .f32⟩
  | .hbm, ⟨36, _⟩ => ⟨S_, .f32⟩
  | .hbm, ⟨37, _⟩ => ⟨S2x8448x4, .f32⟩
  | .hbm, ⟨38, _⟩ => ⟨S2x8448x4x1, .f32⟩
  | .hbm, ⟨39, _⟩ => ⟨S_, .f32⟩
  | .hbm, ⟨40, _⟩ => ⟨S2x8448x4x1, .f32⟩
  | .hbm, ⟨41, _⟩ => ⟨S2x8448x4x1, .f32⟩
  | .hbm, ⟨42, _⟩ => ⟨S_, .f32⟩
  | .hbm, ⟨43, _⟩ => ⟨S2x8448x4x1, .f32⟩
  | .hbm, ⟨44, _⟩ => ⟨S2x8448x4x1, .f32⟩
  | .hbm, ⟨45, _⟩ => ⟨S2x8448x4x1, .f32⟩
  | .hbm, ⟨46, _⟩ => ⟨S2x8448x4x64, .f32⟩
  | .hbm, ⟨47, _⟩ => ⟨S2x8448x4x64, .f32⟩
  | .hbm, ⟨48, _⟩ => ⟨S1x1x4x64, .f32⟩
  | .hbm, ⟨49, _⟩ => ⟨S2x8448x4x64, .f32⟩
  | .hbm, ⟨50, _⟩ => ⟨S2x8448x4x64, .f32⟩
  | .hbm, ⟨51, _⟩ => ⟨S2x8448x256, .f32⟩
  | .hbm, ⟨52, _⟩ => ⟨S256, .f32⟩
  | .hbm, ⟨53, _⟩ => ⟨S2x8448x4x64, .f32⟩
  | .hbm, ⟨54, _⟩ => ⟨S4x64, .f32⟩
  | .hbm, ⟨55, _⟩ => ⟨S2x8448x4x64, .f32⟩
  | .hbm, ⟨56, _⟩ => ⟨S_, .f32⟩
  | .hbm, ⟨57, _⟩ => ⟨S2x8448x4, .f32⟩
  | .hbm, ⟨58, _⟩ => ⟨S2x8448x4x1, .f32⟩
  | .hbm, ⟨59, _⟩ => ⟨S_, .f32⟩
  | .hbm, ⟨60, _⟩ => ⟨S2x8448x4x1, .f32⟩
  | .hbm, ⟨61, _⟩ => ⟨S2x8448x4x1, .f32⟩
  | .hbm, ⟨62, _⟩ => ⟨S_, .f32⟩
  | .hbm, ⟨63, _⟩ => ⟨S2x8448x4x1, .f32⟩
  | .hbm, ⟨64, _⟩ => ⟨S2x8448x4x1, .f32⟩
  | .hbm, ⟨65, _⟩ => ⟨S2x8448x4x1, .f32⟩
  | .hbm, ⟨66, _⟩ => ⟨S2x8448x4x64, .f32⟩
  | .hbm, ⟨67, _⟩ => ⟨S2x8448x4x64, .f32⟩
  | .hbm, ⟨68, _⟩ => ⟨S1x1x4x64, .f32⟩
  | .hbm, ⟨69, _⟩ => ⟨S2x8448x4x64, .f32⟩
  | .hbm, ⟨70, _⟩ => ⟨S2x8448x4x64, .f32⟩
  | .hbm, ⟨71, _⟩ => ⟨S2x8448x256, .f32⟩
  | .hbm, ⟨72, _⟩ => ⟨S2x8448x256, .f32⟩
  | .hbm, ⟨73, _⟩ => ⟨S2x8448x256, .f32⟩
  | .hbm, ⟨74, _⟩ => ⟨S_, .f32⟩
  | .hbm, ⟨75, _⟩ => ⟨S2x8448x256, .f32⟩
  | .hbm, ⟨76, _⟩ => ⟨S2x8448x256, .f32⟩
  | .hbm, ⟨77, _⟩ => ⟨S_, .f32⟩
  | .hbm, ⟨78, _⟩ => ⟨S2x8448x256, .f32⟩
  | .hbm, ⟨79, _⟩ => ⟨S2x8448x256, .f32⟩
  | .hbm, ⟨80, _⟩ => ⟨S2x8448x256, .f32⟩
  | .hbm, ⟨81, _⟩ => ⟨S2x8448x256, .f32⟩
  | .hbm, ⟨82, _⟩ => ⟨S2x8448x1024, .f32⟩
  | .hbm, ⟨83, _⟩ => ⟨S2x8448x1024, .f32⟩
  | .hbm, ⟨84, _⟩ => ⟨S2x256x1024, .f32⟩
  | .hbm, ⟨85, _⟩ => ⟨S1x6144, .f32⟩
  | .hbm, ⟨86, _⟩ => ⟨S6144, .f32⟩
  | .hbm, ⟨87, _⟩ => ⟨S1x1x6144, .f32⟩
  | .hbm, ⟨88, _⟩ => ⟨S1x1x1024, .f32⟩
  | .hbm, ⟨89, _⟩ => ⟨S1x1x1024, .f32⟩
  | .hbm, ⟨90, _⟩ => ⟨S1x1x1024, .f32⟩
  | .hbm, ⟨91, _⟩ => ⟨S1x1x1024, .f32⟩
  | .hbm, ⟨92, _⟩ => ⟨S1x1x1024, .f32⟩
  | .hbm, ⟨93, _⟩ => ⟨S1x1x1024, .f32⟩
  | .hbm, ⟨94, _⟩ => ⟨S2x256x1024, .f32⟩
  | .hbm, ⟨95, _⟩ => ⟨S2x256x1024, .f32⟩
  | .hbm, ⟨96, _⟩ => ⟨S2x256x1024, .f32⟩
  | .hbm, ⟨97, _⟩ => ⟨S2x256x1024, .f32⟩
  | .hbm, ⟨98, _⟩ => ⟨S2x8192x1024, .f32⟩
  | .hbm, ⟨99, _⟩ => ⟨S2x6144, .f32⟩
  | .hbm, ⟨100, _⟩ => ⟨S2x1x6144, .f32⟩
  | .hbm, ⟨101, _⟩ => ⟨S2x1x1024, .f32⟩
  | .hbm, ⟨102, _⟩ => ⟨S2x1x1024, .f32⟩
  | .hbm, ⟨103, _⟩ => ⟨S2x1x1024, .f32⟩
  | .hbm, ⟨104, _⟩ => ⟨S2x1x1024, .f32⟩
  | .hbm, ⟨105, _⟩ => ⟨S2x1x1024, .f32⟩
  | .hbm, ⟨106, _⟩ => ⟨S2x1x1024, .f32⟩
  | .hbm, ⟨107, _⟩ => ⟨S2x8192x1024, .f32⟩
  | .hbm, ⟨108, _⟩ => ⟨S2x8192x1024, .f32⟩
  | .hbm, ⟨109, _⟩ => ⟨S2x8192x1024, .f32⟩
  | .hbm, ⟨110, _⟩ => ⟨S2x8192x1024, .f32⟩
  | .hbm, ⟨111, _⟩ => ⟨S2x8448x1024, .f32⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩

abbrev nD : Nat := 1
abbrev τ : Topo := Topo.v7x

variable {F : FTy → Type} [FloatOps F]
-- ==== Kernel5.lean ====
abbrev S2x8448x1024 : Shape := ⟨3, ![2, 8448, 1024]⟩
abbrev S8x6144 : Shape := ⟨2, ![8, 6144]⟩
abbrev S2x8448x512 : Shape := ⟨3, ![2, 8448, 512]⟩
abbrev S2x8448x256 : Shape := ⟨3, ![2, 8448, 256]⟩
abbrev S1x1024 : Shape := ⟨2, ![1, 1024]⟩
abbrev S1024x1024 : Shape := ⟨2, ![1024, 1024]⟩
abbrev S128x128 : Shape := ⟨2, ![128, 128]⟩
abbrev S2x8192x1024 : Shape := ⟨3, ![2, 8192, 1024]⟩
abbrev S1x256x1024 : Shape := ⟨3, ![1, 256, 1024]⟩
abbrev S1x256x512 : Shape := ⟨3, ![1, 256, 512]⟩
abbrev S1x256x256 : Shape := ⟨3, ![1, 256, 256]⟩
abbrev S1x6144 : Shape := ⟨2, ![1, 6144]⟩
abbrev S256x512 : Shape := ⟨2, ![256, 512]⟩
abbrev S1x512 : Shape := ⟨2, ![1, 512]⟩
abbrev S256x128 : Shape := ⟨2, ![256, 128]⟩
abbrev S256x256 : Shape := ⟨2, ![256, 256]⟩
abbrev S1x256 : Shape := ⟨2, ![1, 256]⟩
abbrev S256x1024 : Shape := ⟨2, ![256, 1024]⟩

abbrev nBuf : Space → Nat
  | .hbm => 11
  | .vmem => 18
  | .smem => 0
  | _ => 0

abbrev bufTy : (tb : Table) → Fin (tcTables nBuf tb) → BufTy
  | .hbm, ⟨0, _⟩ => ⟨S2x8448x1024, .f32⟩
  | .hbm, ⟨1, _⟩ => ⟨S8x6144, .f32⟩
  | .hbm, ⟨2, _⟩ => ⟨S2x8448x512, .f32⟩
  | .hbm, ⟨3, _⟩ => ⟨S2x8448x256, .f32⟩
  | .hbm, ⟨4, _⟩ => ⟨S2x8448x256, .f32⟩
  | .hbm, ⟨5, _⟩ => ⟨S2x8448x256, .f32⟩
  | .hbm, ⟨6, _⟩ => ⟨S2x8448x256, .f32⟩
  | .hbm, ⟨7, _⟩ => ⟨S1x1024, .f32⟩
  | .hbm, ⟨8, _⟩ => ⟨S1024x1024, .bf16⟩
  | .hbm, ⟨9, _⟩ => ⟨S128x128, .bf16⟩
  | .hbm, ⟨10, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S8x6144, .f32⟩
  | .local _ .vmem, ⟨3, _⟩ => ⟨S1x256x512, .f32⟩
  | .local _ .vmem, ⟨4, _⟩ => ⟨S1x256x512, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x1024, .f32⟩
  | .local _ .vmem, ⟨14, _⟩ => ⟨S128x128, .bf16⟩
  | .local _ .vmem, ⟨15, _⟩ => ⟨S1024x1024, .bf16⟩
  | .local _ .vmem, ⟨16, _⟩ => ⟨S1x256x1024, .f32⟩
  | .local _ .vmem, ⟨17, _⟩ => ⟨S1x256x1024, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 32], ![false, false]⟩

def k0_off1 (i : grid0.Coords) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 1 := Scalar.cmpi .slt v0 c1_i32_0
  let c2_i32 : BitVec 32 := 2#32
  let arg0 : BitVec 32 := BitVec.ofNat 32 (i 0).val
  let v2 : BitVec 32 := Scalar.select v1 c2_i32 arg0
  let v3 : Index := Scalar.indexCast v2
  let c0 : Index := 0#32
  ![v3.toNat, 0]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S2x8448x1024 : Shape := ⟨3, ![2, 8448, 1024]⟩
abbrev S8x6144 : Shape := ⟨2, ![8, 6144]⟩
abbrev S2x8448x512 : Shape := ⟨3, ![2, 8448, 512]⟩
abbrev S2x8448x256 : Shape := ⟨3, ![2, 8448, 256]⟩
abbrev S1x1024 : Shape := ⟨2, ![1, 1024]⟩
abbrev S1024x1024 : Shape := ⟨2, ![1024, 1024]⟩
abbrev S1024 : Shape := ⟨1, ![1024]⟩
abbrev S512 : Shape := ⟨1, ![512]⟩
abbrev S2x8448x8x64 : Shape := ⟨4, ![2, 8448, 8, 64]⟩
abbrev S8x64 : Shape := ⟨2, ![8, 64]⟩
abbrev S_ : Shape := ⟨0, ![]⟩
abbrev S2x8448x8 : Shape := ⟨3, ![2, 8448, 8]⟩
abbrev S2x8448x8x1 : Shape := ⟨4, ![2, 8448, 8, 1]⟩
abbrev S1x1x8x64 : Shape := ⟨4, ![1, 1, 8, 64]⟩
abbrev S256 : Shape := ⟨1, ![256]⟩
abbrev S2x8448x4x64 : Shape := ⟨4, ![2, 8448, 4, 64]⟩
abbrev S4x64 : Shape := ⟨2, ![4, 64]⟩
abbrev S2x8448x4 : Shape := ⟨3, ![2, 8448, 4]⟩
abbrev S2x8448x4x1 : Shape := ⟨4, ![2, 8448, 4, 1]⟩
abbrev S1x1x4x64 : Shape := ⟨4, ![1, 1, 4, 64]⟩
abbrev S2x8192x1024 : Shape := ⟨3, ![2, 8192, 1024]⟩
abbrev S2x6144 : Shape := ⟨2, ![2, 6144]⟩
abbrev S2x1x6144 : Shape := ⟨3, ![2, 1, 6144]⟩
abbrev S2x1x1024 : Shape := ⟨3, ![2, 1, 1024]⟩

abbrev nBuf : Space → Nat
  | .hbm => 97
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S8x6144, .f32⟩
  | .hbm, ⟨2, _⟩ => ⟨S2x8448x512, .f32⟩
  | .hbm, ⟨3, _⟩ => ⟨S2x8448x256, .f32⟩
  | .hbm, ⟨4, _⟩ => ⟨S2x8448x256, .f32⟩
  | .hbm, ⟨5, _⟩ => ⟨S2x8448x256, .f32⟩
  | .hbm, ⟨6, _⟩ => ⟨S2x8448x256, .f32⟩
  | .hbm, ⟨7, _⟩ => ⟨S1x1024, .f32⟩
  | .hbm, ⟨8, _⟩ => ⟨S1024x1024, .bf16⟩
  | .hbm, ⟨9, _⟩ => ⟨S2x8448x256, .f32⟩
  | .hbm, ⟨10, _⟩ => ⟨S1024, .f32⟩
  | .hbm, ⟨11, _⟩ => ⟨S1024x1024, .f32⟩
  | .hbm, ⟨12, _⟩ => ⟨S512, .f32⟩
  | .hbm, ⟨13, _⟩ => ⟨S2x8448x8x64, .f32⟩
  | .hbm, ⟨14, _⟩ => ⟨S8x64, .f32⟩
  | .hbm, ⟨15, _⟩ => ⟨S2x8448x8x64, .f32⟩
  | .hbm, ⟨16, _⟩ => ⟨S_, .f32⟩
  | .hbm, ⟨17, _⟩ => ⟨S2x8448x8, .f32⟩
  | .hbm, ⟨18, _⟩ => ⟨S2x8448x8x1, .f32⟩
  | .hbm, ⟨19, _⟩ => ⟨S_, .f32⟩
  | .hbm, ⟨20, _⟩ => ⟨S2x8448x8x1, .f32⟩
  | .hbm, ⟨21, _⟩ => ⟨S2x8448x8x1, .f32⟩
  | .hbm, ⟨22, _⟩ => ⟨S_, .f32⟩
  | .hbm, ⟨23, _⟩ => ⟨S2x8448x8x1, .f32⟩
  | .hbm, ⟨24, _⟩ => ⟨S2x8448x8x1, .f32⟩
  | .hbm, ⟨25, _⟩ => ⟨S2x8448x8x1, .f32⟩
  | .hbm, ⟨26, _⟩ => ⟨S2x8448x8x64, .f32⟩
  | .hbm, ⟨27, _⟩ => ⟨S2x8448x8x64, .f32⟩
  | .hbm, ⟨28, _⟩ => ⟨S1x1x8x64, .f32⟩
  | .hbm, ⟨29, _⟩ => ⟨S2x8448x8x64, .f32⟩
  | .hbm, ⟨30, _⟩ => ⟨S2x8448x8x64, .f32⟩
  | .hbm, ⟨31, _⟩ => ⟨S2x8448x512, .f32⟩
  | .hbm, ⟨32, _⟩ => ⟨S256, .f32⟩
  | .hbm, ⟨33, _⟩ => ⟨S2x8448x4x64, .f32⟩
  | .hbm, ⟨34, _⟩ => ⟨S4x64, .f32⟩
  | .hbm, ⟨35, _⟩ => ⟨S2x8448x4x64, .f32⟩
  | .hbm, ⟨36, _⟩ => ⟨S_, .f32⟩
  | .hbm, ⟨37, _⟩ => ⟨S2x8448x4, .f32⟩
  | .hbm, ⟨38, _⟩ => ⟨S2x8448x4x1, .f32⟩
  | .hbm, ⟨39, _⟩ => ⟨S_, .f32⟩
  | .hbm, ⟨40, _⟩ => ⟨S2x8448x4x1, .f32⟩
  | .hbm, ⟨41, _⟩ => ⟨S2x8448x4x1, .f32⟩
  | .hbm, ⟨42, _⟩ => ⟨S_, .f32⟩
  | .hbm, ⟨43, _⟩ => ⟨S2x8448x4x1, .f32⟩
  | .hbm, ⟨44, _⟩ => ⟨S2x8448x4x1, .f32⟩
  | .hbm, ⟨45, _⟩ => ⟨S2x8448x4x1, .f32⟩
  | .hbm, ⟨46, _⟩ => ⟨S2x8448x4x64, .f32⟩
  | .hbm, ⟨47, _⟩ => ⟨S2x8448x4x64, .f32⟩
  | .hbm, ⟨48, _⟩ => ⟨S1x1x4x64, .f32⟩
  | .hbm, ⟨49, _⟩ => ⟨S2x8448x4x64, .f32⟩
  | .hbm, ⟨50, _⟩ => ⟨S2x8448x4x64, .f32⟩
  | .hbm, ⟨51, _⟩ => ⟨S2x8448x256, .f32⟩
  | .hbm, ⟨52, _⟩ => ⟨S256, .f32⟩
  | .hbm, ⟨53, _⟩ => ⟨S2x8448x4x64, .f32⟩
  | .hbm, ⟨54, _⟩ => ⟨S4x64, .f32⟩
  | .hbm, ⟨55, _⟩ => ⟨S2x8448x4x64, .f32⟩
  | .hbm, ⟨56, _⟩ => ⟨S_, .f32⟩
  | .hbm, ⟨57, _⟩ => ⟨S2x8448x4, .f32⟩
  | .hbm, ⟨58, _⟩ => ⟨S2x8448x4x1, .f32⟩
  | .hbm, ⟨59, _⟩ => ⟨S_, .f32⟩
  | .hbm, ⟨60, _⟩ => ⟨S2x8448x4x1, .f32⟩
  | .hbm, ⟨61, _⟩ => ⟨S2x8448x4x1, .f32⟩
  | .hbm, ⟨62, _⟩ => ⟨S_, .f32⟩
  | .hbm, ⟨63, _⟩ => ⟨S2x8448x4x1, .f32⟩
  | .hbm, ⟨64, _⟩ => ⟨S2x8448x4x1, .f32⟩
  | .hbm, ⟨65, _⟩ => ⟨S2x8448x4x1, .f32⟩
  | .hbm, ⟨66, _⟩ => ⟨S2x8448x4x64, .f32⟩
  | .hbm, ⟨67, _⟩ => ⟨S2x8448x4x64, .f32⟩
  | .hbm, ⟨68, _⟩ => ⟨S1x1x4x64, .f32⟩
  | .hbm, ⟨69, _⟩ => ⟨S2x8448x4x64, .f32⟩
  | .hbm, ⟨70, _⟩ => ⟨S2x8448x4x64, .f32⟩
  | .hbm, ⟨71, _⟩ => ⟨S2x8448x256, .f32⟩
  | .hbm, ⟨72, _⟩ => ⟨S2x8448x256, .f32⟩
  | .hbm, ⟨73, _⟩ => ⟨S2x8448x256, .f32⟩
  | .hbm, ⟨74, _⟩ => ⟨S_, .f32⟩
  | .hbm, ⟨75, _⟩ => ⟨S2x8448x256, .f32⟩
  | .hbm, ⟨76, _⟩ => ⟨S2x8448x256, .f32⟩
  | .hbm, ⟨77, _⟩ => ⟨S_, .f32⟩
  | .hbm, ⟨78, _⟩ => ⟨S2x8448x256, .f32⟩
  | .hbm, ⟨79, _⟩ => ⟨S2x8448x256, .f32⟩
  | .hbm, ⟨80, _⟩ => ⟨S2x8448x256, .f32⟩
  | .hbm, ⟨81, _⟩ => ⟨S2x8448x256, .f32⟩
  | .hbm, ⟨82, _⟩ => ⟨S2x8448x1024, .f32⟩
  | .hbm, ⟨83, _⟩ => ⟨S2x8448x1024, .f32⟩
  | .hbm, ⟨84, _⟩ => ⟨S2x8192x1024, .f32⟩
  | .hbm, ⟨85, _⟩ => ⟨S2x6144, .f32⟩
  | .hbm, ⟨86, _⟩ => ⟨S2x1x6144, .f32⟩
  | .hbm, ⟨87, _⟩ => ⟨S2x1x1024, .f32⟩
  | .hbm, ⟨88, _⟩ => ⟨S2x1x1024, .f32⟩
  | .hbm, ⟨89, _⟩ => ⟨S2x1x1024, .f32⟩
  | .hbm, ⟨90, _⟩ => ⟨S2x1x1024, .f32⟩
  | .hbm, ⟨91, _⟩ => ⟨S2x1x1024, .f32⟩
  | .hbm, ⟨92, _⟩ => ⟨S2x1x1024, .f32⟩
  | .hbm, ⟨93, _⟩ => ⟨S2x8192x1024, .f32⟩
  | .hbm, ⟨94, _⟩ => ⟨S2x8192x1024, .f32⟩
  | .hbm, ⟨95, _⟩ => ⟨S2x8192x1024, .f32⟩
  | .hbm, ⟨96, _⟩ => ⟨S2x8192x1024, .f32⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== Kernel6.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S4x8x6144 : Shape := ⟨3, ![4, 8, 6144]⟩

abbrev nBuf : Space → Nat
  | .hbm => 49
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x1024x6144, .f32⟩
  | .hbm, ⟨29, _⟩ => ⟨S1024x6144, .f32⟩
  | .hbm, ⟨30, _⟩ => ⟨S8x6144, .f32⟩
  | .hbm, ⟨31, _⟩ => ⟨S1x6144, .f32⟩
  | .hbm, ⟨32, _⟩ => ⟨S6144, .f32⟩
  | .hbm, ⟨33, _⟩ => ⟨S1x6144, .f32⟩
  | .hbm, ⟨34, _⟩ => ⟨S8x6144, .f32⟩
  | .hbm, ⟨35, _⟩ => ⟨S8x6144, .f32⟩
  | .hbm, ⟨36, _⟩ => ⟨S1x1024x6144, .f32⟩
  | .hbm, ⟨37, _⟩ => ⟨S1024x6144, .f32⟩
  | .hbm, ⟨38, _⟩ => ⟨S8x6144, .f32⟩
  | .hbm, ⟨39, _⟩ => ⟨S1x6144, .f32⟩
  | .hbm, ⟨40, _⟩ => ⟨S6144, .f32⟩
  | .hbm, ⟨41, _⟩ => ⟨S1x6144, .f32⟩
  | .hbm, ⟨42, _⟩ => ⟨S8x6144, .f32⟩
  | .hbm, ⟨43, _⟩ => ⟨S8x6144, .f32⟩
  | .hbm, ⟨44, _⟩ => ⟨S1x8x6144, .f32⟩
  | .hbm, ⟨45, _⟩ => ⟨S1x8x6144, .f32⟩
  | .hbm, ⟨46, _⟩ => ⟨S1x8x6144, .f32⟩
  | .hbm, ⟨47, _⟩ => ⟨S1x8x6144, .f32⟩
  | .hbm, ⟨48, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Proof.Loop.lean ====
/-
  The loop over the blocks of 512 keys (`k0_t2_loop`), as an invariant over the contents of the three scratch buffers.
  Each trip reads one block of keys and one of values and runs the loop over the eight heads on them; the contents after the
  heads' loop are the generated listing of its stores (`pb_k0_t3`), so the contents after `n` trips are an iteration of it.
-/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S1x8x256x128 .bf16) (harg2 : arg2.IsWhole)
  (arg3 : Memref sig .tc .vmem S1x8448x128 .bf16) (harg3 : arg3.IsWhole)
  (arg4 : Memref sig .tc .vmem S1x8448x128 .bf16) (harg4 : arg4.IsWhole)
  (arg5 : Memref sig .tc .vmem S1x256x512 .f32) (harg5 : arg5.IsWhole)
  (arg6 : Memref sig .tc .vmem S2048x1 .f32) (harg6 : arg6.IsWhole)
  (arg7 : Memref sig .tc .vmem S2048x1 .f32) (harg7 : arg7.IsWhole)
  (arg8 : Memref sig .tc .vmem S2048x128 .f32) (harg8 : arg8.IsWhole)

/-- The contents of the three scratch buffers: running maximum, running sum, running accumulator. -/
abbrev Scratch (arg6 arg7 : Memref sig .tc .vmem S2048x1 .f32) (arg8 : Memref sig .tc .vmem S2048x128 .f32) : Type :=
  BufTy.Contents (Elt F) arg6.view.ty × BufTy.Contents (Elt F) arg7.view.ty × BufTy.Contents (Elt F) arg8.view.ty

/-- One block of 512 keys: the scratch contents after the loop over the heads, from those before it. -/
def tileStep (v83 v86 : Vec F S1x512x128 .bf16) (X2 : BufTy.Contents (Elt F) arg2.view.ty)
    (s : Scratch (F := F) arg6 arg7 arg8) : Scratch (F := F) arg6 arg7 arg8 :=
  let p := pb_k0_t3 (F := F) Variants.none c none i arg2 harg2 arg3 harg3 arg4 harg4 arg5 harg5 arg6 harg6 arg7 harg7 arg8 harg8
    v83 v86 X2 s.1 s.2.1 s.2.2 k0_t3_loop.trips
  (arg6.view.writes (Elt F) s.1 p.1, arg7.view.writes (Elt F) s.2.1 p.2.1, arg8.view.writes (Elt F) s.2.2 p.2.2)

/-- The scratch contents before trip `n` of the loop over the blocks of 512 keys. -/
def tiles (X2 : BufTy.Contents (Elt F) arg2.view.ty) (X3 : BufTy.Contents (Elt F) arg3.view.ty) (X4 : BufTy.Contents (Elt F) arg4.view.ty)
    (s : Scratch (F := F) arg6 arg7 arg8) : ℕ → Scratch (F := F) arg6 arg7 arg8
  | 0 => s
  | n + 1 =>
    if h : n < (k0_t2_loop i).trips then
      tileStep c i arg2 harg2 arg3 harg3 arg4 harg4 arg5 harg5 arg6 harg6 arg7 harg7 arg8 harg8
        (arg3.view.readAt (Elt F) (Rect.unit (s := S1x8448x128) (k0_off4 i ⟨n, h⟩) S1x512x128.size (k0_off4_inb i ⟨n, h⟩)).toLoadRect X3)
        (arg4.view.readAt (Elt F) (Rect.unit (s := S1x8448x128) (k0_off4 i ⟨n, h⟩) S1x512x128.size (k0_off4_inb i ⟨n, h⟩)).toLoadRect X4)
        X2 (tiles X2 X3 X4 s n)
    else tiles X2 X3 X4 s n

/-- One trip of the recursion. -/
theorem tiles_succ (X2 : BufTy.Contents (Elt F) arg2.view.ty) (X3 : BufTy.Contents (Elt F) arg3.view.ty) (X4 : BufTy.Contents (Elt F) arg4.view.ty)
    (s : Scratch (F := F) arg6 arg7 arg8) (k : Fin (k0_t2_loop i).trips) :
    tiles c i arg2 harg2 arg3 harg3 arg4 harg4 arg5 harg5 arg6 harg6 arg7 harg7 arg8 harg8 X2 X3 X4 s (k.val + 1)
      = tileStep c i arg2 harg2 arg3 harg3 arg4 harg4 arg5 harg5 arg6 harg6 arg7 harg7 arg8 harg8
        (arg3.view.readAt (Elt F) (Rect.unit (s := S1x8448x128) (k0_off4 i k) S1x512x128.size (k0_off4_inb i k)).toLoadRect X3)
        (arg4.view.readAt (Elt F) (Rect.unit (s := S1x8448x128) (k0_off4 i k) S1x512x128.size (k0_off4_inb i k)).toLoadRect X4)
        X2 (tiles c i arg2 harg2 arg3 harg3 arg4 harg4 arg5 harg5 arg6 harg6 arg7 harg7 arg8 harg8 X2 X3 X4 s k.val) := by
  rw [tiles]; exact dif_pos k.isLt

/-- Before trip `n`: the three inputs as they are, the scratch buffers at `tiles n`. -/
abbrev tilesInv (X2 : BufTy.Contents (Elt F) arg2.view.ty) (X3 : BufTy.Contents (Elt F) arg3.view.ty) (X4 : BufTy.Contents (Elt F) arg4.view.ty)
    (G6 : BufTy.Contents (Elt F) arg6.view.ty) (G7 : BufTy.Contents (Elt F) arg7.view.ty) (G8 : BufTy.Contents (Elt F) arg8.view.ty)
    (n : ℕ) (_ : PUnit) : sProp 𝕄 :=
  iprop((arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (∃ f, (arg6.view.loc (c : Thread nD τ) ↦[arg6.view.set]{fullShare} f) ∗ ⌜f = (tiles (F := F) c i arg2 harg2 arg3 harg3 arg4 harg4 arg5 harg5 arg6 harg6 arg7 harg7 arg8 harg8 X2 X3 X4 (G6, G7, G8) n).1⌝)
    ∗ (∃ f, (arg7.view.loc (c : Thread nD τ) ↦[arg7.view.set]{fullShare} f) ∗ ⌜f = (tiles (F := F) c i arg2 harg2 arg3 harg3 arg4 harg4 arg5 harg5 arg6 harg6 arg7 harg7 arg8 harg8 X2 X3 X4 (G6, G7, G8) n).2.1⌝)
    ∗ (∃ f, (arg8.view.loc (c : Thread nD τ) ↦[arg8.view.set]{fullShare} f) ∗ ⌜f = (tiles (F := F) c i arg2 harg2 arg3 harg3 arg4 harg4 arg5 harg5 arg6 harg6 arg7 harg7 arg8 harg8 X2 X3 X4 (G6, G7, G8) n).2.2⌝))

set_option warn.classDefReducibility false in
set_option maxHeartbeats 4000000 in
/-- The loop over the blocks of 512 keys by its invariant. -/
@[sl_loop] def loopInv_k0_t2 (E : Set ℕ)
    (X2 : BufTy.Contents (Elt F) arg2.view.ty) (X3 : BufTy.Contents (Elt F) arg3.view.ty) (X4 : BufTy.Contents (Elt F) arg4.view.ty)
    (G6 : BufTy.Contents (Elt F) arg6.view.ty) (G7 : BufTy.Contents (Elt F) arg7.view.ty) (G8 : BufTy.Contents (Elt F) arg8.view.ty) :
    LoopInvTy_k0_t2 (F := F) Unit ℕ (UR sig nD τ) ℕ Variants.none c none E i arg2 harg2 arg3 harg3 arg4 harg4 arg5 harg5 arg6 harg6 arg7 harg7 arg8 harg8 where
  inv := tilesInv (F := F) c i arg2 harg2 arg3 harg3 arg4 harg4 arg5 harg5 arg6 harg6 arg7 harg7 arg8 harg8 X2 X3 X4 G6 G7 G8
  step k acc := by
    iintro ⟨H2, H3, H4, ⟨%f6, H6, %h6⟩, ⟨%f7, H7, %h7⟩, ⟨%f8, H8, %h8⟩⟩
    unfold k0_t2_body
    sl_exec
    sl_step
    unfold tilesInv
    rw [tiles_succ]
    isplitl [H2]; · iexact H2
    isplitl [H3]; · iexact H3
    isplitl [H4]; · iexact H4
    isplitl [H6]
    · iexists _; isplitl [H6]; · iexact H6
      ipureintro; rw [h6, h7, h8]; rfl
    isplitl [H7]
    · iexists _; isplitl [H7]; · iexact H7
      ipureintro; rw [h6, h7, h8]; rfl
    iexists _; isplitl [H8]; · iexact H8
    ipureintro; rw [h6, h7, h8]; rfl

end Cert.Proof.Attn

end
-- ==== Proof.State.lean ====
/-
  The attention kernel's block as a pure function of its inputs.
  A grid point holds 256 query rows of each of the eight heads of one batch entry. Each head carries a running maximum, a
  running sum of exponentials and a running accumulator for its rows, and one block of keys and values changes them by a step
  that reads this head's query rows and nothing of the other heads.
-/
module

public import proofs.«01_k».proof.Proof.Gen.KernelIdeal.Skeleton
public import Idealize.ShloMosaic.Lib.VecWindow
public import Idealize.ShloMosaic.Lib.Pipeline.Kit

@[expose] public section

set_option maxRecDepth 16384

noncomputable section

namespace Cert.Proof.Attn

open Cert.KernelIdeal Cert.KernelIdeal.Gen
open Idealize.ShloMosaic

variable {F : FTy → Type} [FloatOps F]

/-- One head's running maximum, sum and accumulator over its 256 query rows. -/
abbrev Head (F : FTy → Type) : Type := Vec F S256x1 .f32 × Vec F S256x1 .f32 × Vec F S256x128 .f32

theorem rows1 (h : Fin 8) : ∀ a, (![256 * h.val, 0] : Fin 2 → ℕ) a + S256x1.size a ≤ S2048x1.size a := by
  revert h; decide
theorem rows128 (h : Fin 8) : ∀ a, (![256 * h.val, 0] : Fin 2 → ℕ) a + S256x128.size a ≤ S2048x128.size a := by
  revert h; decide
theorem rowsQ (h : Fin 8) : ∀ a, (![0, h.val, 0, 0] : Fin 4 → ℕ) a + S1x1x256x128.size a ≤ S1x8x256x128.size a := by
  revert h; decide

/-- Head `h`'s rows of a column over all heads. -/
def col (x : Vec F S2048x1 .f32) (h : Fin 8) : Vec F S256x1 .f32 := VecWindow.window x ![256 * h.val, 0] S256x1.size (rows1 h)
/-- Head `h`'s rows of the accumulator over all heads. -/
def rows (x : Vec F S2048x128 .f32) (h : Fin 8) : Vec F S256x128 .f32 := VecWindow.window x ![256 * h.val, 0] S256x128.size (rows128 h)
/-- Head `h`'s query rows. -/
def qrows (x : Vec F S1x8x256x128 .bf16) (h : Fin 8) : Vec F S1x1x256x128 .bf16 := VecWindow.window x ![0, h.val, 0, 0] S1x1x256x128.size (rowsQ h)

/-- The first block, of 256 keys `kc` and values `vc`. -/
def step256 (kc vc : Vec F S1x256x128 .bf16) (q : Vec F S1x1x256x128 .bf16) (s : Head F) : Head F :=
  (k0_pay12 kc q s.1, k0_pay10 kc q s.1 s.2.1, k0_pay11 kc vc q s.1 s.2.2)

/-- A block of 512 keys `kc` and values `vc`. -/
def step512 (kc vc : Vec F S1x512x128 .bf16) (q : Vec F S1x1x256x128 .bf16) (s : Head F) : Head F :=
  (k0_pay19 kc q s.1, k0_pay17 kc q s.1 s.2.1, k0_pay18 kc vc q s.1 s.2.2)

/-- The first 256 keys or values. -/
def first (x : Vec F S1x8448x128 .bf16) : Vec F S1x256x128 .bf16 :=
  VecWindow.window x ![0, 0, 0] S1x256x128.size inb_S1x8448x128_S1x256x128_0_0_0

/-- Block `n` of 512 keys or values, after the first 256. -/
def block (i : grid0.Coords) (x : Vec F S1x8448x128 .bf16) (n : Fin (k0_t2_loop i).trips) : Vec F S1x512x128 .bf16 :=
  VecWindow.window x (k0_off4 i n) S1x512x128.size (k0_off4_inb i n)

/-- A head before any key. -/
def start (h : Fin 8) : Head F := (col k0_pay3 h, col k0_pay4 h, rows k0_pay5 h)

/-- A head's state after the first 256 keys and `n` blocks of 512. -/
def headAt (i : grid0.Coords) (q : Vec F S1x8x256x128 .bf16) (k v : Vec F S1x8448x128 .bf16) (h : Fin 8) : ℕ → Head F
  | 0 => step256 (first k) (first v) (qrows q h) (start h)
  | n + 1 => if hn : n < (k0_t2_loop i).trips then step512 (block i k ⟨n, hn⟩) (block i v ⟨n, hn⟩) (qrows q h) (headAt i q k v h n)
      else headAt i q k v h n

/-- A head's state after all the keys its query rows see. -/
def headEnd (i : grid0.Coords) (q : Vec F S1x8x256x128 .bf16) (k v : Vec F S1x8448x128 .bf16) (h : Fin 8) : Head F :=
  headAt i q k v h (k0_t2_loop i).trips

abbrev rOut0 : Rect S1x256x512 := Rect.unit (s := S1x256x512) ![0, 0, 0] S1x256x128.size inb_S1x256x512_S1x256x128_0_0_0
abbrev rOut1 : Rect S1x256x512 := Rect.unit (s := S1x256x512) ![0, 0, 128] S1x256x128.size inb_S1x256x512_S1x256x128_0_0_128
abbrev rOut2 : Rect S1x256x512 := Rect.unit (s := S1x256x512) ![0, 0, 256] S1x256x128.size inb_S1x256x512_S1x256x128_0_0_256
abbrev rOut3 : Rect S1x256x512 := Rect.unit (s := S1x256x512) ![0, 0, 384] S1x256x128.size inb_S1x256x512_S1x256x128_0_0_384

/-- The lane numbers. -/
def lanes : IVec S256x128 32 := iota .tc S256x128 32 [1] iota_S256x128_d1_w32

/-- The four stores of the block, from the eight heads' final states, last first. -/
def outPieces (e : Fin 8 → Head F) : List (View.Piece (Elt F) S1x256x512 .f32) :=
  [⟨rOut3, k0_pay2 (k0_pay27 lanes) (e 6).2.2 (e 6).2.1 (e 7).2.2 (e 7).2.1⟩,
   ⟨rOut2, k0_pay1 (k0_pay27 lanes) (e 4).2.2 (e 4).2.1 (e 5).2.2 (e 5).2.1⟩,
   ⟨rOut1, k0_pay29 lanes (e 2).2.2 (e 2).2.1 (e 3).2.2 (e 3).2.1⟩,
   ⟨rOut0, k0_pay28 lanes (e 0).2.2 (e 0).2.1 (e 1).2.2 (e 1).2.1⟩]

/-- The block of results. -/
def outBlock (i : grid0.Coords) (q : Vec F S1x8x256x128 .bf16) (k v : Vec F S1x8448x128 .bf16) : Vec F S1x256x512 .f32 :=
  View.canon (outPieces (headEnd i q k v))

/-- The four stores tile the block, whatever is stored. -/
theorem stores_cover (p0 p1 p2 p3 : Vec F S1x256x128 .f32) (y : S1x256x512.Idx) :
    ∃ pc ∈ ([⟨rOut3, p3⟩, ⟨rOut2, p2⟩, ⟨rOut1, p1⟩, ⟨rOut0, p0⟩] : List (View.Piece (Elt F) S1x256x512 .f32)), y ∈ pc.1.set :=
  View.cover_of_tiled [⟨rOut3, p3⟩, ⟨rOut2, p2⟩, ⟨rOut1, p1⟩, ⟨rOut0, p0⟩] S1x256x128.size (by rfl) y

end Cert.Proof.Attn

end
-- ==== Proof.Reading.lean ====
/-
  What the loops leave in the scratch buffers, head by head: the stores of a trip over one head change that head's rows by the
  head's step and leave the others' rows, so after the eight heads each head has taken one step, and after all the blocks each
  head stands at `headEnd`.
-/
module

public import proofs.«01_k».proof.Proof.Loop
public import proofs.«01_k».proof.Proof.State

@[expose] public section

set_option maxRecDepth 16384

noncomputable section

namespace Cert.Proof.Attn

open Cert.KernelIdeal Cert.KernelIdeal.Gen
open Idealize.ShloMosaic Idealize.ShloMosaic.TcCoe

variable {F : FTy → Type} [FloatOps F]

theorem trips1 : k0_t1_loop.trips = 8 := by decide +kernel
theorem trips3 : k0_t3_loop.trips = 8 := by decide +kernel

/-- A store into one head's rows of a column, read back at a head. -/
theorem col_put (x : Vec F S2048x1 .f32) (k h : Fin 8) (w : Vec F S256x1 .f32) :
    col (VecWindow.put x ![256 * k.val, 0] S256x1.size w) h = if k = h then w else col x h := by
  unfold col
  split
  next e => subst e; exact VecWindow.window_put_same x _ _ _ w
  next e =>
    refine VecWindow.window_put_of_disjoint x _ _ _ _ _ w 0 ?_
    have : k.val ≠ h.val := fun q => e (Fin.ext q)
    show 256 * h.val + 256 ≤ 256 * k.val ∨ 256 * k.val + 256 ≤ 256 * h.val
    omega

/-- A store into one head's rows of the accumulator, read back at a head. -/
theorem rows_put (x : Vec F S2048x128 .f32) (k h : Fin 8) (w : Vec F S256x128 .f32) :
    rows (VecWindow.put x ![256 * k.val, 0] S256x128.size w) h = if k = h then w else rows x h := by
  unfold rows
  split
  next e => subst e; exact VecWindow.window_put_same x _ _ _ w
  next e =>
    refine VecWindow.window_put_of_disjoint x _ _ _ _ _ w 0 ?_
    have : k.val ≠ h.val := fun q => e (Fin.ext q)
    show 256 * h.val + 256 ≤ 256 * k.val ∨ 256 * k.val + 256 ≤ 256 * h.val
    omega

variable (c : Dev nD) (i : grid0.Coords)
  (arg2 : Memref sig .tc .vmem S1x8x256x128 .bf16) (harg2 : arg2.IsWhole)
  (arg3 : Memref sig .tc .vmem S1x8448x128 .bf16) (harg3 : arg3.IsWhole)
  (arg4 : Memref sig .tc .vmem S1x8448x128 .bf16) (harg4 : arg4.IsWhole)
  (arg5 : Memref sig .tc .vmem S1x256x512 .f32) (harg5 : arg5.IsWhole)
  (arg6 : Memref sig .tc .vmem S2048x1 .f32) (harg6 : arg6.IsWhole)
  (arg7 : Memref sig .tc .vmem S2048x1 .f32) (harg7 : arg7.IsWhole)
  (arg8 : Memref sig .tc .vmem S2048x128 .f32) (harg8 : arg8.IsWhole)

/-- Head `h`'s state, read off the scratch buffers. -/
def hd (s : Scratch (F := F) arg6 arg7 arg8) (h : Fin 8) : Head F :=
  (col (arg6.view.read (Elt F) s.1) h, col (arg7.view.read (Elt F) s.2.1) h, rows (arg8.view.read (Elt F) s.2.2) h)

/-- Three lists of stores written over the scratch buffers. -/
def wr (s : Scratch (F := F) arg6 arg7 arg8)
    (p : List (View.Piece (Elt F) S2048x1 .f32) × List (View.Piece (Elt F) S2048x1 .f32) × List (View.Piece (Elt F) S2048x128 .f32)) :
    Scratch (F := F) arg6 arg7 arg8 :=
  (arg6.view.writes (Elt F) s.1 p.1, arg7.view.writes (Elt F) s.2.1 p.2.1, arg8.view.writes (Elt F) s.2.2 p.2.2)

/-- Lists of stores on top of others, for the three buffers. -/
def onto (t p : List (View.Piece (Elt F) S2048x1 .f32) × List (View.Piece (Elt F) S2048x1 .f32) × List (View.Piece (Elt F) S2048x128 .f32)) :
    List (View.Piece (Elt F) S2048x1 .f32) × List (View.Piece (Elt F) S2048x1 .f32) × List (View.Piece (Elt F) S2048x128 .f32) :=
  (t.1 ++ p.1, t.2.1 ++ p.2.1, t.2.2 ++ p.2.2)

/-- One head's three stores over any earlier ones, read back at a head. -/
theorem hd_wr_cons (s : Scratch (F := F) arg6 arg7 arg8)
    (p : List (View.Piece (Elt F) S2048x1 .f32) × List (View.Piece (Elt F) S2048x1 .f32) × List (View.Piece (Elt F) S2048x128 .f32))
    (k h : Fin 8) (o6 o7 : Fin 2 → ℕ) (o8 : Fin 2 → ℕ)
    (b6 : ∀ a, o6 a + S256x1.size a ≤ S2048x1.size a) (b7 : ∀ a, o7 a + S256x1.size a ≤ S2048x1.size a)
    (b8 : ∀ a, o8 a + S256x128.size a ≤ S2048x128.size a)
    (e6 : o6 = ![256 * k.val, 0]) (e7 : o7 = ![256 * k.val, 0]) (e8 : o8 = ![256 * k.val, 0]) (w : Head F) :
    hd arg6 arg7 arg8 (wr arg6 arg7 arg8 s
        (⟨Rect.unit (s := S2048x1) o6 S256x1.size b6, w.1⟩ :: p.1, ⟨Rect.unit (s := S2048x1) o7 S256x1.size b7, w.2.1⟩ :: p.2.1,
          ⟨Rect.unit (s := S2048x128) o8 S256x128.size b8, w.2.2⟩ :: p.2.2)) h
      = if k = h then w else hd arg6 arg7 arg8 (wr arg6 arg7 arg8 s p) h := by
  unfold hd wr
  dsimp only
  rw [View.read_writes_cons_put _ _ _ _ _ e6, View.read_writes_cons_put _ _ _ _ _ e7, View.read_writes_cons_put _ _ _ _ _ e8,
    col_put, col_put, rows_put]
  split <;> rfl

/-- The stores of the trip over head `k` of a block of 512 keys. -/
theorem trip512 (v83 v86 : Vec F S1x512x128 .bf16) (X2 : BufTy.Contents (Elt F) arg2.view.ty) (s : Scratch (F := F) arg6 arg7 arg8)
    (k : Fin k0_t3_loop.trips) (k8 : Fin 8) (hk : k.val = k8.val) :
    tripL_k0_t3 (F := F) Variants.none c none i arg2 harg2 arg3 harg3 arg4 harg4 arg5 harg5 arg6 harg6 arg7 harg7 arg8 harg8
      v83 v86 X2 k s.1 s.2.1 s.2.2
    = (let w := step512 v83 v86 (qrows (arg2.view.read (Elt F) X2) k8) (hd arg6 arg7 arg8 s k8)
       ([⟨Rect.unit (s := S2048x1) (k0_off6 k) S256x1.size (k0_off6_inb k), w.1⟩],
        [⟨Rect.unit (s := S2048x1) (k0_off6 k) S256x1.size (k0_off6_inb k), w.2.1⟩],
        [⟨Rect.unit (s := S2048x128) (k0_off7 k) S256x128.size (k0_off7_inb k), w.2.2⟩])) := by
  have h6 : arg6.view.readAt (Elt F) (Rect.unit (s := S2048x1) (k0_off6 k) S256x1.size (k0_off6_inb k)).toLoadRect s.1 = col (arg6.view.read (Elt F) s.1) k8 :=
    View.readAt_unit _ _ _ ((k0_off6_eq k).trans (by rw [hk])) _
  have h7 : arg7.view.readAt (Elt F) (Rect.unit (s := S2048x1) (k0_off6 k) S256x1.size (k0_off6_inb k)).toLoadRect s.2.1 = col (arg7.view.read (Elt F) s.2.1) k8 :=
    View.readAt_unit _ _ _ ((k0_off6_eq k).trans (by rw [hk])) _
  have h8 : arg8.view.readAt (Elt F) (Rect.unit (s := S2048x128) (k0_off7 k) S256x128.size (k0_off7_inb k)).toLoadRect s.2.2 = rows (arg8.view.read (Elt F) s.2.2) k8 :=
    View.readAt_unit _ _ _ ((k0_off7_eq k).trans (by rw [hk])) _
  have h2 : arg2.view.readAt (Elt F) (Rect.unit (s := S1x8x256x128) (k0_off5 k) S1x1x256x128.size (k0_off5_inb k)).toLoadRect X2 = qrows (arg2.view.read (Elt F) X2) k8 :=
    View.readAt_unit _ _ _ ((k0_off5_eq k).trans (by rw [hk])) _
  unfold hd step512
  dsimp only
  rw [← h6, ← h7, ← h8, ← h2]
  unfold tripL_k0_t3 trip_k0_t3
  rfl

/-- The stores of the trip over head `k` of the first 256 keys. -/
theorem trip256 (v12 v14 : Vec F S1x256x128 .bf16) (X2 : BufTy.Contents (Elt F) arg2.view.ty) (s : Scratch (F := F) arg6 arg7 arg8)
    (k : Fin k0_t1_loop.trips) (k8 : Fin 8) (hk : k.val = k8.val) :
    tripL_k0_t1 (F := F) Variants.none c none i arg2 harg2 arg3 harg3 arg4 harg4 arg5 harg5 arg6 harg6 arg7 harg7 arg8 harg8
      v12 v14 X2 k s.1 s.2.1 s.2.2
    = (let w := step256 v12 v14 (qrows (arg2.view.read (Elt F) X2) k8) (hd arg6 arg7 arg8 s k8)
       ([⟨Rect.unit (s := S2048x1) (k0_off2 k) S256x1.size (k0_off2_inb k), w.1⟩],
        [⟨Rect.unit (s := S2048x1) (k0_off2 k) S256x1.size (k0_off2_inb k), w.2.1⟩],
        [⟨Rect.unit (s := S2048x128) (k0_off3 k) S256x128.size (k0_off3_inb k), w.2.2⟩])) := by
  have h6 : arg6.view.readAt (Elt F) (Rect.unit (s := S2048x1) (k0_off2 k) S256x1.size (k0_off2_inb k)).toLoadRect s.1 = col (arg6.view.read (Elt F) s.1) k8 :=
    View.readAt_unit _ _ _ ((k0_off2_eq k).trans (by rw [hk])) _
  have h7 : arg7.view.readAt (Elt F) (Rect.unit (s := S2048x1) (k0_off2 k) S256x1.size (k0_off2_inb k)).toLoadRect s.2.1 = col (arg7.view.read (Elt F) s.2.1) k8 :=
    View.readAt_unit _ _ _ ((k0_off2_eq k).trans (by rw [hk])) _
  have h8 : arg8.view.readAt (Elt F) (Rect.unit (s := S2048x128) (k0_off3 k) S256x128.size (k0_off3_inb k)).toLoadRect s.2.2 = rows (arg8.view.read (Elt F) s.2.2) k8 :=
    View.readAt_unit _ _ _ ((k0_off3_eq k).trans (by rw [hk])) _
  have h2 : arg2.view.readAt (Elt F) (Rect.unit (s := S1x8x256x128) (k0_off1 k) S1x1x256x128.size (k0_off1_inb k)).toLoadRect X2 = qrows (arg2.view.read (Elt F) X2) k8 :=
    View.readAt_unit _ _ _ ((k0_off1_eq k).trans (by rw [hk])) _
  unfold hd step256
  dsimp only
  rw [← h6, ← h7, ← h8, ← h2]
  unfold tripL_k0_t1 trip_k0_t1
  rfl

/-- After `n` heads of a block of 512 keys, the heads before `n` have taken the step. -/
theorem heads512 (v83 v86 : Vec F S1x512x128 .bf16) (X2 : BufTy.Contents (Elt F) arg2.view.ty) (s : Scratch (F := F) arg6 arg7 arg8) :
    ∀ n, n ≤ 8 → ∀ h : Fin 8,
    hd arg6 arg7 arg8 (wr arg6 arg7 arg8 s (pb_k0_t3 (F := F) Variants.none c none i arg2 harg2 arg3 harg3 arg4 harg4 arg5 harg5 arg6 harg6
      arg7 harg7 arg8 harg8 v83 v86 X2 s.1 s.2.1 s.2.2 n)) h
    = if h.val < n then step512 v83 v86 (qrows (arg2.view.read (Elt F) X2) h) (hd arg6 arg7 arg8 s h) else hd arg6 arg7 arg8 s h
  | 0, _, h => by rw [if_neg (Nat.not_lt_zero _)]; rfl
  | n + 1, hn, h => by
    have hn3 : n < k0_t3_loop.trips := trips3.symm ▸ hn
    have ih := heads512 v83 v86 X2 s n (by omega)
    let p := pb_k0_t3 (F := F) Variants.none c none i arg2 harg2 arg3 harg3 arg4 harg4 arg5 harg5 arg6 harg6 arg7 harg7 arg8 harg8 v83 v86 X2 s.1 s.2.1 s.2.2 n
    let s' := wr arg6 arg7 arg8 s p
    have e : pb_k0_t3 (F := F) Variants.none c none i arg2 harg2 arg3 harg3 arg4 harg4 arg5 harg5 arg6 harg6 arg7 harg7 arg8 harg8 v83 v86 X2 s.1 s.2.1 s.2.2 (n + 1)
        = onto (tripL_k0_t3 (F := F) Variants.none c none i arg2 harg2 arg3 harg3 arg4 harg4 arg5 harg5 arg6 harg6 arg7 harg7 arg8 harg8 v83 v86 X2 ⟨n, hn3⟩ s'.1 s'.2.1 s'.2.2) p :=
      pb_k0_t3_succ (F := F) Variants.none c none i arg2 harg2 arg3 harg3 arg4 harg4 arg5 harg5 arg6 harg6 arg7 harg7 arg8 harg8 v83 v86 X2 s.1 s.2.1 s.2.2 ⟨n, hn3⟩
    rw [e, trip512 c i arg2 harg2 arg3 harg3 arg4 harg4 arg5 harg5 arg6 harg6 arg7 harg7 arg8 harg8 v83 v86 X2 s' ⟨n, hn3⟩ ⟨n, hn⟩ rfl]
    refine (hd_wr_cons arg6 arg7 arg8 s _ ⟨n, hn⟩ h _ _ _ _ _ _ (k0_off6_eq _) (k0_off6_eq _) (k0_off7_eq _) _).trans ?_
    rw [ih h]
    have i0 : hd arg6 arg7 arg8 s' ⟨n, hn⟩ = _ := ih ⟨n, hn⟩
    rw [i0, if_neg (lt_irrefl n)]
    by_cases q : (⟨n, hn⟩ : Fin 8) = h
    · subst q; rw [if_pos rfl, if_pos (Nat.lt_succ_self n)]
    · have : h.val ≠ n := fun z => q (Fin.ext z.symm)
      rw [if_neg q]
      exact if_congr (by omega) rfl rfl

/-- After `n` heads of the first 256 keys, the heads before `n` have taken the step. -/
theorem heads256 (v12 v14 : Vec F S1x256x128 .bf16) (X2 : BufTy.Contents (Elt F) arg2.view.ty) (s : Scratch (F := F) arg6 arg7 arg8) :
    ∀ n, n ≤ 8 → ∀ h : Fin 8,
    hd arg6 arg7 arg8 (wr arg6 arg7 arg8 s (pb_k0_t1 (F := F) Variants.none c none i arg2 harg2 arg3 harg3 arg4 harg4 arg5 harg5 arg6 harg6
      arg7 harg7 arg8 harg8 v12 v14 X2 s.1 s.2.1 s.2.2 n)) h
    = if h.val < n then step256 v12 v14 (qrows (arg2.view.read (Elt F) X2) h) (hd arg6 arg7 arg8 s h) else hd arg6 arg7 arg8 s h
  | 0, _, h => by rw [if_neg (Nat.not_lt_zero _)]; rfl
  | n + 1, hn, h => by
    have hn3 : n < k0_t1_loop.trips := trips1.symm ▸ hn
    have ih := heads256 v12 v14 X2 s n (by omega)
    let p := pb_k0_t1 (F := F) Variants.none c none i arg2 harg2 arg3 harg3 arg4 harg4 arg5 harg5 arg6 harg6 arg7 harg7 arg8 harg8 v12 v14 X2 s.1 s.2.1 s.2.2 n
    let s' := wr arg6 arg7 arg8 s p
    have e : pb_k0_t1 (F := F) Variants.none c none i arg2 harg2 arg3 harg3 arg4 harg4 arg5 harg5 arg6 harg6 arg7 harg7 arg8 harg8 v12 v14 X2 s.1 s.2.1 s.2.2 (n + 1)
        = onto (tripL_k0_t1 (F := F) Variants.none c none i arg2 harg2 arg3 harg3 arg4 harg4 arg5 harg5 arg6 harg6 arg7 harg7 arg8 harg8 v12 v14 X2 ⟨n, hn3⟩ s'.1 s'.2.1 s'.2.2) p :=
      pb_k0_t1_succ (F := F) Variants.none c none i arg2 harg2 arg3 harg3 arg4 harg4 arg5 harg5 arg6 harg6 arg7 harg7 arg8 harg8 v12 v14 X2 s.1 s.2.1 s.2.2 ⟨n, hn3⟩
    rw [e, trip256 c i arg2 harg2 arg3 harg3 arg4 harg4 arg5 harg5 arg6 harg6 arg7 harg7 arg8 harg8 v12 v14 X2 s' ⟨n, hn3⟩ ⟨n, hn⟩ rfl]
    refine (hd_wr_cons arg6 arg7 arg8 s _ ⟨n, hn⟩ h _ _ _ _ _ _ (k0_off2_eq _) (k0_off2_eq _) (k0_off3_eq _) _).trans ?_
    rw [ih h]
    have i0 : hd arg6 arg7 arg8 s' ⟨n, hn⟩ = _ := ih ⟨n, hn⟩
    rw [i0, if_neg (lt_irrefl n)]
    by_cases q : (⟨n, hn⟩ : Fin 8) = h
    · subst q; rw [if_pos rfl, if_pos (Nat.lt_succ_self n)]
    · have : h.val ≠ n := fun z => q (Fin.ext z.symm)
      rw [if_neg q]
      exact if_congr (by omega) rfl rfl

/-- The three stores of the initial values. -/
def initial : List (View.Piece (Elt F) S2048x1 .f32) × List (View.Piece (Elt F) S2048x1 .f32) × List (View.Piece (Elt F) S2048x128 .f32) :=
  ([⟨Rect.unit (s := S2048x1) ![0, 0] S2048x1.size inb_S2048x1_S2048x1_0_0, k0_pay3 (F := F)⟩],
   [⟨Rect.unit (s := S2048x1) ![0, 0] S2048x1.size inb_S2048x1_S2048x1_0_0, k0_pay4 (F := F)⟩],
   [⟨Rect.unit (s := S2048x128) ![0, 0] S2048x128.size inb_S2048x128_S2048x128_0_0, k0_pay5 (F := F)⟩])

/-- After the stores of the initial values every head is at its start, whatever was there before. -/
theorem hd_initial (s : Scratch (F := F) arg6 arg7 arg8) (h : Fin 8) :
    hd arg6 arg7 arg8 (wr arg6 arg7 arg8 s initial) h = start h := by
  unfold hd wr initial start
  dsimp only
  rw [View.read_writes_full, View.read_writes_full, View.read_writes_full]

/-- The scratch contents when the loop over the blocks of 512 keys begins: the initial values stored whole, then the stores of
    the first 256 keys' loop over the heads, over whatever was there (`s`). -/
def afterFirst (s : Scratch (F := F) arg6 arg7 arg8) (v12 v14 : Vec F S1x256x128 .bf16) (X2 : BufTy.Contents (Elt F) arg2.view.ty) :
    Scratch (F := F) arg6 arg7 arg8 :=
  let s₀ := wr arg6 arg7 arg8 s initial
  wr arg6 arg7 arg8 s (onto (pb_k0_t1 (F := F) Variants.none c none i arg2 harg2 arg3 harg3 arg4 harg4 arg5 harg5 arg6 harg6
      arg7 harg7 arg8 harg8 v12 v14 X2 s₀.1 s₀.2.1 s₀.2.2 k0_t1_loop.trips) initial)

/-- Each head's state when the loop over the blocks of 512 keys begins. -/
theorem hd_afterFirst (s : Scratch (F := F) arg6 arg7 arg8) (v12 v14 : Vec F S1x256x128 .bf16) (X2 : BufTy.Contents (Elt F) arg2.view.ty)
    (h : Fin 8) :
    hd arg6 arg7 arg8 (afterFirst c i arg2 harg2 arg3 harg3 arg4 harg4 arg5 harg5 arg6 harg6 arg7 harg7 arg8 harg8 s v12 v14 X2) h
      = step256 v12 v14 (qrows (arg2.view.read (Elt F) X2) h) (start h) := by
  have e : afterFirst c i arg2 harg2 arg3 harg3 arg4 harg4 arg5 harg5 arg6 harg6 arg7 harg7 arg8 harg8 s v12 v14 X2
      = wr arg6 arg7 arg8 (wr arg6 arg7 arg8 s initial) (pb_k0_t1 (F := F) Variants.none c none i arg2 harg2 arg3 harg3 arg4 harg4 arg5 harg5 arg6 harg6
      arg7 harg7 arg8 harg8 v12 v14 X2 (wr arg6 arg7 arg8 s initial).1 (wr arg6 arg7 arg8 s initial).2.1 (wr arg6 arg7 arg8 s initial).2.2 k0_t1_loop.trips) := by
    unfold afterFirst onto wr
    dsimp only
    rw [View.writes_append, View.writes_append, View.writes_append]
  rw [e, heads256 c i arg2 harg2 arg3 harg3 arg4 harg4 arg5 harg5 arg6 harg6 arg7 harg7 arg8 harg8 v12 v14 X2 _ _ trips1.le h,
    trips1, if_pos h.isLt, hd_initial]

/-- Each head's state before trip `n` of the loop over the blocks of 512 keys. -/
theorem hd_tiles (X2 : BufTy.Contents (Elt F) arg2.view.ty) (X3 : BufTy.Contents (Elt F) arg3.view.ty) (X4 : BufTy.Contents (Elt F) arg4.view.ty)
    (s : Scratch (F := F) arg6 arg7 arg8) (h : Fin 8)
    (h0 : hd arg6 arg7 arg8 s h = headAt i (arg2.view.read (Elt F) X2) (arg3.view.read (Elt F) X3) (arg4.view.read (Elt F) X4) h 0) :
    ∀ n, hd arg6 arg7 arg8 (tiles c i arg2 harg2 arg3 harg3 arg4 harg4 arg5 harg5 arg6 harg6 arg7 harg7 arg8 harg8 X2 X3 X4 s n) h
      = headAt i (arg2.view.read (Elt F) X2) (arg3.view.read (Elt F) X3) (arg4.view.read (Elt F) X4) h n
  | 0 => h0
  | n + 1 => by
    have ih := hd_tiles X2 X3 X4 s h h0 n
    by_cases hn : n < (k0_t2_loop i).trips
    · rw [tiles_succ c i arg2 harg2 arg3 harg3 arg4 harg4 arg5 harg5 arg6 harg6 arg7 harg7 arg8 harg8 X2 X3 X4 s ⟨n, hn⟩, headAt, dif_pos hn]
      refine (heads512 c i arg2 harg2 arg3 harg3 arg4 harg4 arg5 harg5 arg6 harg6 arg7 harg7 arg8 harg8 _ _ X2 _
        k0_t3_loop.trips trips3.le h).trans ?_
      rw [trips3, if_pos h.isLt, ih]
      rfl
    · rw [tiles, headAt, dif_neg hn, dif_neg hn]; exact ih

/-- The scratch contents after all the loops, over whatever was there (`s`). -/
def finalAt (s : Scratch (F := F) arg6 arg7 arg8)
    (X2 : BufTy.Contents (Elt F) arg2.view.ty) (X3 : BufTy.Contents (Elt F) arg3.view.ty) (X4 : BufTy.Contents (Elt F) arg4.view.ty) :
    Scratch (F := F) arg6 arg7 arg8 :=
  tiles c i arg2 harg2 arg3 harg3 arg4 harg4 arg5 harg5 arg6 harg6 arg7 harg7 arg8 harg8 X2 X3 X4
    (afterFirst c i arg2 harg2 arg3 harg3 arg4 harg4 arg5 harg5 arg6 harg6 arg7 harg7 arg8 harg8 s
      (arg3.view.readAt (Elt F) (Rect.unit (s := S1x8448x128) ![0, 0, 0] S1x256x128.size inb_S1x8448x128_S1x256x128_0_0_0).toLoadRect X3)
      (arg4.view.readAt (Elt F) (Rect.unit (s := S1x8448x128) ![0, 0, 0] S1x256x128.size inb_S1x8448x128_S1x256x128_0_0_0).toLoadRect X4) X2)
    (k0_t2_loop i).trips

/-- Each head ends at `headEnd`. -/
theorem hd_finalAt (s : Scratch (F := F) arg6 arg7 arg8)
    (X2 : BufTy.Contents (Elt F) arg2.view.ty) (X3 : BufTy.Contents (Elt F) arg3.view.ty) (X4 : BufTy.Contents (Elt F) arg4.view.ty) (h : Fin 8) :
    hd arg6 arg7 arg8 (finalAt c i arg2 harg2 arg3 harg3 arg4 harg4 arg5 harg5 arg6 harg6 arg7 harg7 arg8 harg8 s X2 X3 X4) h
      = headEnd i (arg2.view.read (Elt F) X2) (arg3.view.read (Elt F) X3) (arg4.view.read (Elt F) X4) h :=
  hd_tiles c i arg2 harg2 arg3 harg3 arg4 harg4 arg5 harg5 arg6 harg6 arg7 harg7 arg8 harg8 X2 X3 X4 _ h
    (hd_afterFirst c i arg2 harg2 arg3 harg3 arg4 harg4 arg5 harg5 arg6 harg6 arg7 harg7 arg8 harg8 s _ _ X2 h) _

end Cert.Proof.Attn

end
-- ==== Proof.Body.lean ====
/-
  The attention kernel's body: run on its memrefs it leaves the inputs as they are and the output block at `outBlock` of them.
-/
module

public import proofs.«01_k».proof.Proof.Reading
public import proofs.«01_k».proof.Proof.State

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S1x8x256x128 .bf16) (harg2 : arg2.IsWhole)
  (arg3 : Memref sig .tc .vmem S1x8448x128 .bf16) (harg3 : arg3.IsWhole)
  (arg4 : Memref sig .tc .vmem S1x8448x128 .bf16) (harg4 : arg4.IsWhole)
  (arg5 : Memref sig .tc .vmem S1x256x512 .f32) (harg5 : arg5.IsWhole)
  (arg6 : Memref sig .tc .vmem S2048x1 .f32) (harg6 : arg6.IsWhole)
  (arg7 : Memref sig .tc .vmem S2048x1 .f32) (harg7 : arg7.IsWhole)
  (arg8 : Memref sig .tc .vmem S2048x128 .f32) (harg8 : arg8.IsWhole)

/-- Reading the final sums at a head's rows. -/
theorem readBack7 (f2 : BufTy.Contents (Elt F) arg2.view.ty) (f3 : BufTy.Contents (Elt F) arg3.view.ty) (f4 : BufTy.Contents (Elt F) arg4.view.ty)
    (h : Fin 8) (o : Fin 2 → ℕ) (b : ∀ a, o a + S256x1.size a ≤ S2048x1.size a) (e : o = ![256 * h.val, 0]) :
    arg7.view.readAt (Elt F) (Rect.unit (s := S2048x1) o S256x1.size b).toLoadRect
        (finalAt c i arg2 harg2 arg3 harg3 arg4 harg4 arg5 harg5 arg6 harg6 arg7 harg7 arg8 harg8
          (arg6.view.junk, arg7.view.junk, arg8.view.junk) f2 f3 f4).2.1
      = (headEnd i (arg2.view.read (Elt F) f2) (arg3.view.read (Elt F) f3) (arg4.view.read (Elt F) f4) h).2.1 := by
  rw [← hd_finalAt c i arg2 harg2 arg3 harg3 arg4 harg4 arg5 harg5 arg6 harg6 arg7 harg7 arg8 harg8
    (arg6.view.junk, arg7.view.junk, arg8.view.junk) f2 f3 f4 h]
  unfold hd col
  dsimp only
  exact View.readAt_unit _ _ b e (rows1 h)

/-- Reading the final accumulators at a head's rows. -/
theorem readBack8 (f2 : BufTy.Contents (Elt F) arg2.view.ty) (f3 : BufTy.Contents (Elt F) arg3.view.ty) (f4 : BufTy.Contents (Elt F) arg4.view.ty)
    (h : Fin 8) (o : Fin 2 → ℕ) (b : ∀ a, o a + S256x128.size a ≤ S2048x128.size a) (e : o = ![256 * h.val, 0]) :
    arg8.view.readAt (Elt F) (Rect.unit (s := S2048x128) o S256x128.size b).toLoadRect
        (finalAt c i arg2 harg2 arg3 harg3 arg4 harg4 arg5 harg5 arg6 harg6 arg7 harg7 arg8 harg8
          (arg6.view.junk, arg7.view.junk, arg8.view.junk) f2 f3 f4).2.2
      = (headEnd i (arg2.view.read (Elt F) f2) (arg3.view.read (Elt F) f3) (arg4.view.read (Elt F) f4) h).2.2 := by
  rw [← hd_finalAt c i arg2 harg2 arg3 harg3 arg4 harg4 arg5 harg5 arg6 harg6 arg7 harg7 arg8 harg8
    (arg6.view.junk, arg7.view.junk, arg8.view.junk) f2 f3 f4 h]
  unfold hd rows
  dsimp only
  exact View.readAt_unit _ _ b e (rows128 h)

set_option maxHeartbeats 4000000 in
/-- The body on whole memrefs, the inputs at `x2`, `x3`, `x4`, the output and the scratch buffers at anything: it runs to the
    continuation holding the inputs as they were, the output at `outBlock` of them, and the scratch buffers at something. -/
theorem sound_kernel (E : Set ℕ)
    (x2 : Vec F S1x8x256x128 .bf16) (x3 x4 : Vec F S1x8448x128 .bf16) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare x2 ∗ owns (c : Thread nD τ) arg3 fullShare x3 ∗ owns (c : Thread nD τ) arg4 fullShare x4
          ∗ owns (c : Thread nD τ) arg5 fullShare (outBlock i x2 x3 x4) ∗ (∃ d, owns (c : Thread nD τ) arg6 fullShare d)
        ∗ (∃ d, owns (c : Thread nD τ) arg7 fullShare d) ∗ (∃ d, owns (c : Thread nD τ) arg8 fullShare d)) -∗ K ⟨⟩))
      ⊢ wp frame (wpE (defs₀ (F := F)) Variants.none c none) E (cc0_gqa_attention i arg2 harg2 arg3 harg3 arg4 harg4 arg5 harg5 arg6 harg6 arg7 harg7 arg8 harg8) K := by
  have htr : (k0_t4_loop i).trips = 0 := Nat.le_zero.1 (k0_t4_abs i).2.1
  simp only [cc0_gqa_attention_eq_skeleton]; unfold cc0_gqa_attention_skel
  simp only [k0_part1_eq_skeleton, k0_part2_eq_skeleton]
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf2 hf3 hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    have l7 := fun h o b e => readBack7 c i arg2 harg2 arg3 harg3 arg4 harg4 arg5 harg5 arg6 harg6 arg7 harg7 arg8 harg8 f2 f3 f4 h o b e
    have l8 := fun h o b e => readBack8 c i arg2 harg2 arg3 harg3 arg4 harg4 arg5 harg5 arg6 harg6 arg7 harg7 arg8 harg8 f2 f3 f4 h o b e
    have z : ∀ h : Fin 8, (![256 * h.val, 0] : Fin 2 → ℕ) = ![256 * h.val, 0] := fun _ => rfl
    unfold outBlock outPieces lanes
    rw [← l8 6 ![1536, 0] inb_S2048x128_S256x128_1536_0 (z 6), ← l7 6 ![1536, 0] inb_S2048x1_S256x1_1536_0 (z 6),
      ← l8 7 ![1792, 0] inb_S2048x128_S256x128_1792_0 (z 7), ← l7 7 ![1792, 0] inb_S2048x1_S256x1_1792_0 (z 7),
      ← l8 4 ![1024, 0] inb_S2048x128_S256x128_1024_0 (z 4), ← l7 4 ![1024, 0] inb_S2048x1_S256x1_1024_0 (z 4),
      ← l8 5 ![1280, 0] inb_S2048x128_S256x128_1280_0 (z 5), ← l7 5 ![1280, 0] inb_S2048x1_S256x1_1280_0 (z 5),
      ← l8 2 ![512, 0] inb_S2048x128_S256x128_512_0 (z 2), ← l7 2 ![512, 0] inb_S2048x1_S256x1_512_0 (z 2),
      ← l8 3 ![768, 0] inb_S2048x128_S256x128_768_0 (z 3), ← l7 3 ![768, 0] inb_S2048x1_S256x1_768_0 (z 3),
      ← l8 0 ![0, 0] inb_S2048x128_S256x128_0_0 (z 0), ← l7 0 ![0, 0] inb_S2048x1_S256x1_0_0 (z 0),
      ← l8 1 ![256, 0] inb_S2048x128_S256x128_256_0 (z 1), ← l7 1 ![256, 0] inb_S2048x1_S256x1_256_0 (z 1)]
    refine (View.read_writes_eq_canon _ _ _ ?_).trans ?_
    · exact stores_cover _ _ _ _
    · delta sound_kernel.sl.v66 sound_kernel.sl.v67 sound_kernel.sl.v71 sound_kernel.sl.v72 sound_kernel.sl.v53 sound_kernel.sl.v54 sound_kernel.sl.v58 sound_kernel.sl.v59 sound_kernel.sl.v40 sound_kernel.sl.v41 sound_kernel.sl.v44 sound_kernel.sl.v45 sound_kernel.sl.v27 sound_kernel.sl.v28 sound_kernel.sl.v31 sound_kernel.sl.v32 sound_kernel.sl.v24
        sound_kernel.sl.H6_1 sound_kernel.sl.H7_1 sound_kernel.sl.H8_1
      unfold finalAt afterFirst onto wr initial
      clear l7 l8
      with_reducible rfl
  isplitl [H6]
  · iexists _; iexists _; isplitr
    swap; · iexact H6
    ipureintro; rfl
  isplitl [H7]
  · iexists _; iexists _; isplitr
    swap; · iexact H7
    ipureintro; rfl
  iexists _; iexists _; isplitr
  swap; · iexact H8
  ipureintro; rfl

end Cert.Proof.Attn

end
-- ==== Proof.AttnRun.lean ====
/-
  The run of the attention kernel: the body's triple at every grid point gives the pipeline's run, from it the frame, and the
  array of results as the fold of the blocks.
-/
module

public import proofs.«01_k».proof.Proof.Body
public import Idealize.ShloMosaic.Lib.Claim

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core `c`: each input's buffer keeps its block, the output's holds `outBlock` of the
    input blocks; between points the scratch buffers hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (grid0.coords t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the scratch buffers are taken out of the invariant and put back at whatever the body left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    after0_0, after0_1, after0_2, after0_3]
  unfold Pipeline.ΦA
  rw [scopedRest0_eq]
  iintro ⟨⟨⟨⟨%s6, H6⟩, ⟨%s7, H7⟩, ⟨%s8, H8⟩⟩, Hr⟩, Ho, ⟨%d0, H0⟩, ⟨%d1, H1⟩, ⟨%d2, H2⟩, ⟨%d3, H3⟩⟩
  iapply (sound_kernel c (grid0.coords t) _ _ _ _ _ _ _ _ _ _ _ _ _ _ Set.univ (iblk m c 0 t) (iblk m c 1 t) (iblk m c 2 t) _)
  isplitl [H0]; · iexact H0
  isplitl [H1]; · iexact H1
  isplitl [H2]; · iexact H2
  isplitl [H3]; · iexists _; iexact H3
  isplitl [H6]; · iexists s6; rw [owns_whole]; iexact H6
  isplitl [H7]; · iexists s7; rw [owns_whole]; iexact H7
  isplitl [H8]; · iexists s8; rw [owns_whole]; iexact H8
  iintro ⟨H0, H1, H2, H3, ⟨%e6, H6⟩, ⟨%e7, H7⟩, ⟨%e8, H8⟩⟩
  isplitl [H6 H7 H8 Hr]
  · isplitl [H6 H7 H8]
    · isplitl [H6]; · iexists e6; rw [← owns_whole c.tc cc0_scratch0 fullShare e6]; iexact H6
      isplitl [H7]; · iexists e7; rw [← owns_whole c.tc cc0_scratch1 fullShare e7]; iexact H7
      iexists e8; rw [← owns_whole c.tc cc0_scratch2 fullShare e8]; iexact H8
    iexact Hr
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array at the pipeline's fold, the other buffers as found, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Proof.Attn

end
-- ==== Proof.Frames.lean ====
/-
  The programs' frames: the kernel before its idealization is the same program, so it has the same frame; the reference is a
  program of host operations and has no semaphore.
-/
module

public import proofs.«01_k».proof.Defs
public import proofs.«01_k».proof.Proof.Gen.Kernel.Frame
public import proofs.«01_k».proof.Proof.Gen.ReferenceIdeal.Run
public import proofs.«01_k».proof.Proof.Gen.Pre_packed_and_finite
public import proofs.«01_k».proof.Proof.AttnRun

@[expose] public section

set_option maxRecDepth 65536
set_option maxHeartbeats 4000000

noncomputable section

namespace Cert.Proof.Frames

open Idealize.ShloMosaic

section Same
variable {F : FTy → Type} [FloatOps F]

/-- The two call tables hold the same body. -/
theorem table_eq : Cert.Kernel.defs₀ (F := F) = Cert.KernelIdeal.defs₀ (F := F) := by
  unfold Cert.Kernel.defs₀ Cert.KernelIdeal.defs₀
  refine congrArg Defs.onTc ?_
  funext l a
  match l with
  | 0 => rfl

/-- The same with the built-in ones. -/
theorem defs_eq : Cert.Kernel.defs (F := F) = Cert.KernelIdeal.defs (F := F) := by
  unfold Cert.Kernel.defs Cert.KernelIdeal.defs
  rw [table_eq]; rfl

/-- The two entry programs are one. -/
theorem main_eq : Cert.Kernel.main (F := F) = Cert.KernelIdeal.main (F := F) := rfl

end Same

/-- The kernel's frame at the machine's own numbers. -/
theorem kernel : Cert.quiescent_Kernel := by
  intro m ρ _
  have h := Cert.Proof.Attn.frame (F := Bits) m ρ
  rw [← defs_eq, ← main_eq] at h
  exact h

/-- The idealized kernel's frame. -/
theorem kernelIdeal : Cert.quiescent_KernelIdeal := fun m ρ _ => Cert.Proof.Attn.frame m ρ

/-- The same under the precondition. -/
theorem kernelIdeal_pre : Cert.quiescent_KernelIdeal_pre_packed_and_finite := fun m ρ _ => Cert.Proof.Attn.frame m ρ

/-- The reference's frame. -/
theorem reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem reference_pre : Cert.quiescent_ReferenceIdeal_pre_packed_and_finite := fun m ρ _ => reference m ρ trivial

end Cert.Proof.Frames

end
-- ==== Proof.Softmax.lean ====
/-
  A softmax row computed block by block is the softmax row computed at once.
  For a row of real scores, after the first `n` keys the largest score, the sum of exponentials relative to it and the sum
  of values weighted by those exponentials obey the recursion that adds one block and rescales what was there; and the last
  quotient is the sum of values weighted by the normalised exponentials. The values themselves may be any extended reals.
-/
module

public import Idealize.ShloMosaic.PureOps.Ideal
public import Mathlib.Data.EReal.Operations
public import Mathlib.Algebra.BigOperators.Fin

@[expose] public section

noncomputable section

namespace Cert.Proof.Softmax

open Idealize.ShloMosaic

/-- The largest of the first `n` scores. -/
def top (s : ℕ → ℝ) (n : ℕ) : EReal := (Finset.range n).sup fun j => (s j : EReal)

/-- The exponential of a score relative to the largest of the first `n`. -/
def weight (s : ℕ → ℝ) (n j : ℕ) : EReal := Ideal.exp ((s j : EReal) - top s n)

/-- The sum of the first `n` exponentials. -/
def total (s : ℕ → ℝ) (n : ℕ) : EReal := ∑ j ∈ Finset.range n, weight s n j

/-- The first `n` values, weighted by the exponentials. -/
def mix (s : ℕ → ℝ) (v : ℕ → EReal) (n : ℕ) : EReal := ∑ j ∈ Finset.range n, weight s n j * v j

/-- The softmax row: the first `n` values, weighted by the normalised exponentials. -/
def row (s : ℕ → ℝ) (v : ℕ → EReal) (n : ℕ) : EReal := ∑ j ∈ Finset.range n, Ideal.div (weight s n j) (total s n) * v j

/-- The largest of a nonempty family of real scores is real. -/
theorem top_real (s : ℕ → ℝ) {n : ℕ} (h : 0 < n) : ∃ x : ℝ, top s n = x := by
  obtain ⟨j, -, hj⟩ := Finset.exists_mem_eq_sup (Finset.range n) (Finset.nonempty_range_iff.2 h.ne') (fun j => (s j : EReal))
  exact ⟨s j, hj⟩

/-- The largest over a block of `b` scores, as a fold. -/
theorem fold_block (s : ℕ → ℝ) (b : ℕ) : (Finset.univ.fold max ⊥ fun j : Fin b => (s j : EReal)) = top s b := by
  refine le_antisymm ?_ (Finset.sup_le fun j hj => ?_)
  · refine (Finset.fold_max_le (s := Finset.univ) _).2 ⟨bot_le, fun j _ => ?_⟩
    exact Finset.le_sup (f := fun j => (s j : EReal)) (Finset.mem_range.2 j.2)
  · exact (Finset.le_fold_max (s := Finset.univ) _).2 (.inr ⟨⟨j, Finset.mem_range.1 hj⟩, Finset.mem_univ _, le_rfl⟩)

/-- The largest after one more block. -/
theorem top_add (s : ℕ → ℝ) (n b : ℕ) :
    top s (n + b) = max (top s n) (Finset.univ.fold max ⊥ fun j : Fin b => (s (n + j) : EReal)) := by
  rw [fold_block (fun j => s (n + j)) b]
  refine le_antisymm (Finset.sup_le fun j hj => ?_) (max_le (Finset.sup_le fun j hj => ?_) (Finset.sup_le fun j hj => ?_))
  · rcases lt_or_ge j n with h | h
    · exact le_max_of_le_left (Finset.le_sup (f := fun j => (s j : EReal)) (Finset.mem_range.2 h))
    · refine le_max_of_le_right ?_
      have := Finset.le_sup (f := fun j => ((s (n + j) : ℝ) : EReal)) (s := Finset.range b) (b := j - n)
        (Finset.mem_range.2 (by have := Finset.mem_range.1 hj; omega))
      rwa [show n + (j - n) = j by omega] at this
  · exact Finset.le_sup (f := fun j => (s j : EReal)) (Finset.mem_range.2 (by have := Finset.mem_range.1 hj; omega))
  · exact Finset.le_sup (f := fun j => (s j : EReal)) (Finset.mem_range.2 (by have := Finset.mem_range.1 hj; omega))

/-- A nonnegative real factor distributes over a sum of extended reals. -/
theorem mul_sum {ι : Type} (t : Finset ι) (a : ℝ) (ha : 0 ≤ a) (f : ι → EReal) : (a : EReal) * ∑ j ∈ t, f j = ∑ j ∈ t, (a : EReal) * f j := by
  classical
  induction t using Finset.induction_on with
  | empty => simp
  | insert j t hj ih =>
    rw [Finset.sum_insert hj, Finset.sum_insert hj, EReal.left_distrib_of_nonneg_of_ne_top (by exact_mod_cast ha) (EReal.coe_ne_top a), ih]

/-- Rescaling a sum weighted against the old largest score to the new one. -/
theorem rescale (s : ℕ → ℝ) (v : ℕ → EReal) (n : ℕ) (x : ℝ) :
    Ideal.exp (top s n - x) * ∑ j ∈ Finset.range n, weight s n j * v j = ∑ j ∈ Finset.range n, Ideal.exp ((s j : EReal) - x) * v j := by
  rcases Nat.eq_zero_or_pos n with rfl | h
  · simp
  · obtain ⟨m, hm⟩ := top_real s h
    rw [hm, ← EReal.coe_sub, Ideal.exp_coe, mul_sum _ _ (Real.exp_pos _).le]
    refine Finset.sum_congr rfl fun j _ => ?_
    rw [weight, hm, ← EReal.coe_sub, ← EReal.coe_sub, Ideal.exp_coe, Ideal.exp_coe, ← mul_assoc, ← EReal.coe_mul, ← Real.exp_add]
    congr 3; ring

/-- The weighted sum after one more block. -/
theorem mix_add (s : ℕ → ℝ) (v : ℕ → EReal) (n b : ℕ) (h : 0 < n + b) :
    mix s v (n + b) = Ideal.exp (top s n - top s (n + b)) * mix s v n
      + ∑ j : Fin b, Ideal.exp ((s (n + j) : EReal) - top s (n + b)) * v (n + j) := by
  obtain ⟨x, hx⟩ := top_real s h
  rw [mix, mix, Finset.sum_range_add, hx, rescale, ← Finset.sum_range (fun j => Ideal.exp ((s (n + j) : EReal) - x) * v (n + j))]
  simp only [weight, hx]

/-- The sum of exponentials after one more block. -/
theorem total_add (s : ℕ → ℝ) (n b : ℕ) (h : 0 < n + b) :
    total s (n + b) = Ideal.exp (top s n - top s (n + b)) * total s n
      + ∑ j : Fin b, Ideal.exp ((s (n + j) : EReal) - top s (n + b)) := by
  have := mix_add s (fun _ => 1) n b h
  simpa only [mix, total, mul_one] using this

/-- The sum of exponentials is a positive real. -/
theorem total_real (s : ℕ → ℝ) {n : ℕ} (h : 0 < n) : ∃ x : ℝ, 0 < x ∧ total s n = x := by
  obtain ⟨m, hm⟩ := top_real s h
  refine ⟨∑ j ∈ Finset.range n, Real.exp (s j - m), Finset.sum_pos (fun j _ => Real.exp_pos _) (Finset.nonempty_range_iff.2 h.ne'), ?_⟩
  have (t : Finset ℕ) : ∑ j ∈ t, weight s n j = ((∑ j ∈ t, Real.exp (s j - m) : ℝ) : EReal) := by
    induction t using Finset.induction_on with
    | empty => simp
    | insert j t hj ih => rw [Finset.sum_insert hj, Finset.sum_insert hj, ih, weight, hm, ← EReal.coe_sub, Ideal.exp_coe, EReal.coe_add]
  exact this _

/-- Dividing once at the end is weighting by the normalised exponentials. -/
theorem mix_div_total (s : ℕ → ℝ) (v : ℕ → EReal) {n : ℕ} (h : 0 < n) : Ideal.div (mix s v n) (total s n) = row s v n := by
  obtain ⟨l, hl, e⟩ := total_real s h
  rw [row, e, Ideal.div_coe hl.ne', mul_comm, mix, mul_sum _ _ (by positivity)]
  refine Finset.sum_congr rfl fun j _ => ?_
  rw [Ideal.div_coe hl.ne', ← mul_assoc, mul_comm ((1 / l : ℝ) : EReal)]

end Cert.Proof.Softmax

end
-- ==== Proof.Steps.lean ====
/-
  The attention block's steps read at one query row, over the extended reals: a head's running maximum, sum and accumulator
  after the first 256 keys and `n` blocks of 512 are the largest score, the sum of exponentials and the weighted sum of values
  over those keys.
-/
module

public import proofs.«01_k».proof.Proof.State
public import proofs.«01_k».proof.Proof.Softmax
public import Idealize.ShloMosaic.Lib.Pointwise

@[expose] public section

set_option maxRecDepth 16384

noncomputable section

namespace Cert.Proof.Attn

open Cert.KernelIdeal Cert.KernelIdeal.Gen
open Idealize.ShloMosaic

/-- The pattern of the running maximum's start is minus infinity. -/
theorem neg_inf : Ideal.ofBits .f32 0xFF800000#32 = ⊥ := by simp [Ideal.ofBits, Ideal.ieee]

/-- A window read at an index is the array read where the window's offset puts it. -/
theorem window_at {α : Type} {s : Shape} (x : s.Idx → α) (off size : Fin s.rank → ℕ) (inb : ∀ a, off a + size a ≤ s.size a)
    (y : (Rect.unit off size inb).shape.Idx) (z : s.Idx) (hz : ∀ a, (z a).val = off a + (y a).val) : VecWindow.window x off size inb y = x z := by
  unfold VecWindow.window
  refine congrArg x (funext fun a => Fin.ext ?_)
  rw [hz a]; simp [Rect.unit, Rect.emb]

/-- A head's query rows, read at an index. -/
theorem qrows_at (x : Vec Ideal S1x8x256x128 .bf16) (h : Fin 8) (r : Fin 256) (c : Fin 128) : qrows x h (ix4 0 0 r c) = x (ix4 0 h r c) :=
  window_at x _ _ _ _ _ fun a => by fin_cases a <;> simp [ix4]

/-- The first keys or values, read at an index. -/
theorem first_at (x : Vec Ideal S1x8448x128 .bf16) (j : Fin 256) (c : Fin 128) : first x (ix3 0 j c) = x (ix3 0 ⟨j, by omega⟩ c) :=
  window_at x _ _ _ _ _ fun a => by fin_cases a <;> simp [ix3]

theorem trips_le (i : grid0.Coords) (n : Fin (k0_t2_loop i).trips) : n.val < 16 := n.2.trans_le (k0_t2_abs i).2.1

/-- A later block of keys or values, read at an index. -/
theorem block_at (i : grid0.Coords) (x : Vec Ideal S1x8448x128 .bf16) (n : Fin (k0_t2_loop i).trips) (j : Fin 512) (c : Fin 128) :
    block i x n (ix3 0 j c) = x (ix3 0 ⟨256 + 512 * n.val + j, by have := trips_le i n; omega⟩ c) :=
  window_at x _ _ _ _ _ fun a => by
    refine Eq.trans ?_ (congrArg (fun y => y + _) (congrFun (k0_off4_eq i n) a).symm)
    fin_cases a <;> simp [ix3]; omega

/-- The number of later blocks: none for the first 256 query rows, sixteen for the others. -/
theorem trips2 (i : grid0.Coords) : (k0_t2_loop i).trips = if (i 1).val = 0 then 0 else 16 := by
  have h : (i 1).val < 33 := (i 1).isLt
  unfold k0_t2_loop
  generalize (i 1).val = a at h
  revert a; decide

section Row

variable (q : Vec Ideal S1x8x256x128 .bf16) (k v : Vec Ideal S1x8448x128 .bf16) (h : Fin 8) (r : Fin 256) (c : Fin 128)

/-- Query row `r` of head `h` against key `j`, over all 128 lanes. -/
def scoreAt (j : ℕ) : EReal := if hj : j < 8448 then ∑ x : Fin 128, q (ix4 0 h r x) * k (ix3 0 ⟨j, hj⟩ x) else 0

/-- Lane `c` of value `j`. -/
def valueAt (j : ℕ) : EReal := if hj : j < 8448 then v (ix3 0 ⟨j, hj⟩ c) else 0

theorem score_first (j : Fin 256) : k0_pay6 (first k) (qrows q h) (ix2 r j) = scoreAt q k h r j := by
  pointwise [k0_pay6]
  rw [scoreAt, dif_pos (by omega)]
  exact Finset.sum_congr rfl fun x _ => by rw [qrows_at, first_at]

theorem score_block (i : grid0.Coords) (n : Fin (k0_t2_loop i).trips) (j : Fin 512) :
    k0_pay13 (block i k n) (qrows q h) (ix2 r j) = scoreAt q k h r (256 + 512 * n.val + j) := by
  have := trips_le i n
  pointwise [k0_pay13]
  rw [scoreAt, dif_pos (by omega)]
  exact Finset.sum_congr rfl fun x _ => by rw [qrows_at, block_at]

theorem value_first (j : Fin 256) : first v (ix3 0 j c) = valueAt v c j := by rw [valueAt, dif_pos (by omega), first_at]

theorem value_block (i : grid0.Coords) (n : Fin (k0_t2_loop i).trips) (j : Fin 512) :
    block i v n (ix3 0 j c) = valueAt v c (256 + 512 * n.val + j) := by
  have := trips_le i n
  rw [valueAt, dif_pos (by omega), block_at]

/-- The state holds the row's maximum, sum and weighted sum over the first `n` keys. -/
def Holds (s : ℕ → ℝ) (n : ℕ) (st : Head Ideal) : Prop :=
  st.1 (ix2 r 0) = Softmax.top s n ∧ st.2.1 (ix2 r 0) = Softmax.total s n ∧ st.2.2 (ix2 r c) = Softmax.mix s (valueAt v c) n

theorem start_holds (s : ℕ → ℝ) : Holds v r c s 0 (start (F := Ideal) h) := by
  refine ⟨?_, ?_, ?_⟩
  · show Ideal.ofBits .f32 0xFF800000#32 = (⊥ : EReal)
    exact neg_inf
  · show Ideal.ofBits .f32 0x00000000#32 = (0 : EReal)
    exact Ideal.ofBits_zero_f32
  · show Ideal.ofBits .f32 0x00000000#32 = (0 : EReal)
    exact Ideal.ofBits_zero_f32

variable (s : ℕ → ℝ) (hs : ∀ j, scoreAt q k h r j = (s j : EReal))
include hs

/-- The first 256 keys. -/
theorem first_holds (st : Head Ideal) (H : Holds v r c s 0 st) : Holds v r c s 256 (step256 (first k) (first v) (qrows q h) st) := by
  obtain ⟨H1, H2, H3⟩ := H
  have hm := Softmax.top_add s 0 256
  simp only [zero_add] at hm
  refine ⟨?_, ?_, ?_⟩
  · show k0_pay12 _ _ _ _ = _
    pointwise [k0_pay12, k0_pay7]
    simp only [score_first, hs, neg_inf, H1]; exact hm.symm
  · show k0_pay10 _ _ _ _ _ = _
    pointwise [k0_pay10, k0_pay9, k0_pay8, k0_pay7]
    simp only [score_first, hs, neg_inf, H1, H2, ← hm]
    have := Softmax.total_add s 0 256 (by omega)
    simp only [zero_add] at this; exact this.symm
  · show k0_pay11 _ _ _ _ _ _ = _
    pointwise [k0_pay11, k0_pay9, k0_pay8, k0_pay7]
    simp only [score_first, value_first, hs, neg_inf, H1, H3, ← hm]
    have := Softmax.mix_add s (valueAt v c) 0 256 (by omega)
    simp only [zero_add] at this; exact this.symm

/-- One later block. -/
theorem block_holds (i : grid0.Coords) (n : Fin (k0_t2_loop i).trips) (st : Head Ideal) (H : Holds v r c s (256 + 512 * n.val) st) :
    Holds v r c s (256 + 512 * n.val + 512) (step512 (block i k n) (block i v n) (qrows q h) st) := by
  obtain ⟨H1, H2, H3⟩ := H
  have hm := Softmax.top_add s (256 + 512 * n.val) 512
  refine ⟨?_, ?_, ?_⟩
  · show k0_pay19 _ _ _ _ = _
    pointwise [k0_pay19, k0_pay14]
    simp only [score_block, hs, neg_inf, H1]; exact hm.symm
  · show k0_pay17 _ _ _ _ _ = _
    pointwise [k0_pay17, k0_pay16, k0_pay15, k0_pay14]
    simp only [score_block, hs, neg_inf, H1, H2, ← hm]
    exact (Softmax.total_add s (256 + 512 * n.val) 512 (by omega)).symm
  · show k0_pay18 _ _ _ _ _ _ = _
    pointwise [k0_pay18, k0_pay16, k0_pay15, k0_pay14]
    simp only [score_block, value_block, hs, neg_inf, H1, H3, ← hm]
    exact (Softmax.mix_add s (valueAt v c) (256 + 512 * n.val) 512 (by omega)).symm

/-- After the first 256 keys and `n` blocks. -/
theorem headAt_holds (i : grid0.Coords) (n : ℕ) (hn : n ≤ (k0_t2_loop i).trips) : Holds v r c s (256 + 512 * n) (headAt i q k v h n) := by
  induction n with
  | zero => exact first_holds q k v h r c s hs _ (start_holds v h r c s)
  | succ n ih =>
    rw [headAt, dif_pos (by omega)]
    exact block_holds q k v h r c s hs i ⟨n, by omega⟩ _ (ih (by omega))

/-- The final quotient at a row and lane is the softmax row over the keys the block sees. -/
theorem headEnd_quot (i : grid0.Coords) :
    Ideal.div ((headEnd i q k v h).2.2 (ix2 r c)) ((headEnd i q k v h).2.1 (ix2 r 0))
      = Softmax.row s (valueAt v c) (if (i 1).val = 0 then 256 else 8448) := by
  obtain ⟨-, H2, H3⟩ := headAt_holds q k v h r c s hs i _ le_rfl
  rw [headEnd, H2, H3, Softmax.mix_div_total s _ (by omega), trips2]
  split <;> rfl

end Row

end Cert.Proof.Attn

end
-- ==== Proof.RefHeads.lean ====
/-
  The reference's queries, keys and values by head, read at an index from the packed arguments.
-/
module

public import proofs.«01_k».proof.Proof.Gen.ReferenceIdeal.Read
public import proofs.«01_k».proof.Proof.Steps
public import Idealize.ShloMosaic.Lib.Pointwise

@[expose] public section

set_option maxRecDepth 16384

noncomputable section

namespace Cert.Proof.Ref

open Cert.ReferenceIdeal Cert.ReferenceIdeal.Gen Cert.ReferenceIdeal.Read
open Idealize.ShloMosaic

variable (q : Vec Ideal S2x8x8448x128 .bf16) (k v : Vec Ideal S2x8448x128 .bf16)

/-- A query's head is its half of the packed row. -/
theorem query_at (b : Fin 2) (R : Fin 8448) (h : Fin 8) (c : Fin 64) :
    val_main_v6 (F := Ideal) q (ix4 b R h c) = q (ix4 b h R ⟨c.val + (if h.val < 4 then 0 else 64), by split <;> omega⟩) := by
  pointwise [val_main_v6, val_main_v5, val_main_v4, val_main_v3, val_main_v0]
  split
  · rfl
  · refine congrArg q ?_
    congr 1 <;> exact Fin.ext (by dsimp only; omega)

/-- A key's head is its half of the row. -/
theorem key_at (b : Fin 2) (R : Fin 8448) (g : Fin 2) (c : Fin 64) :
    val_main_v7 (F := Ideal) k (ix4 b R g c) = k (ix3 b R ⟨g.val * 64 + c.val, by omega⟩) := by
  pointwise [val_main_v7, val_main_v1]

/-- A value's head is its half of the row. -/
theorem val_at (b : Fin 2) (R : Fin 8448) (g : Fin 2) (c : Fin 64) :
    val_main_v8 (F := Ideal) v (ix4 b R g c) = v (ix3 b R ⟨g.val * 64 + c.val, by omega⟩) := by
  pointwise [val_main_v8, val_main_v2]

/-- The result is the context tokens' attention followed by the others'. -/
theorem result_at (b : Fin 2) (R : Fin 8448) (n : Fin 512) :
    val_main_v47 (F := Ideal) q k v (ix3 b R n)
      = if h : R.val < 256 then val_main_v28 (F := Ideal) q k v (ix3 b ⟨R.val, h⟩ n) else val_main_v46 (F := Ideal) q k v (ix3 b ⟨R.val - 256, by omega⟩ n) := by
  pointwise [val_main_v47]

/-- The maximum over the last axis of a five-axis array, whatever the lengths of its last two axes. -/
theorem largest_last {n d : ℕ} (x : FVec Ideal ⟨5, ![2, 2, 4, n, d]⟩ .f32) (c : FVec Ideal S_ .f32)
    (h : (⟨5, ![2, 2, 4, n, d]⟩ : Shape).ReducesTo [4] ⟨4, ![2, 2, 4, n]⟩) (hu : 0 < S_.numel) (hc : c (Shape.Idx.first hu) = (⊥ : EReal))
    (b g : Fin 2) (u : Fin 4) (R : Fin n) :
    Host.reduce (FloatOps.maximumf (F := Ideal) (φ := .f32)) x c h hu (ix4 b g u R)
      = (Finset.univ.fold max (⊥ : EReal) fun j : Fin d => x (ix5 b g u R j)) := by
  pointwise []
  rw [hc]

/-- The larger of minus infinity and a number is the number. -/
theorem neg_inf_max (x : EReal) : FloatOps.maximumf (F := Ideal) (φ := .f32) (FloatOps.ofBits .f32 0xFF800000#32) x = x := by
  show max (Ideal.ofBits .f32 0xFF800000#32) x = x
  rw [Cert.Proof.Attn.neg_inf]; exact max_bot_left x

end Cert.Proof.Ref

end
-- ==== Proof.RefContext.lean ====
/-
  The reference's attention of the context tokens, stage by stage at an index.
-/
module

public import proofs.«01_k».proof.Proof.RefHeads
public import Idealize.ShloMosaic.Lib.Pointwise

@[expose] public section

set_option maxRecDepth 16384

noncomputable section

namespace Cert.Proof.Ref

open Cert.ReferenceIdeal Cert.ReferenceIdeal.Gen Cert.ReferenceIdeal.Read
open Idealize.ShloMosaic

variable (q : Vec Ideal S2x8x8448x128 .bf16) (k v : Vec Ideal S2x8448x128 .bf16)

/-- The scores. -/
theorem scores_ctx (b : Fin 2) (R : Fin 256) (g : Fin 2) (u : Fin 4) (j : Fin 256) :
    val_main_v14 (F := Ideal) q k (ix5 b g u R j)
      = ∑ x : Fin 64, val_main_v7 (F := Ideal) k (ix4 b ⟨j.val, by omega⟩ g x) * val_main_v6 (F := Ideal) q (ix4 b ⟨R.val, by omega⟩ ⟨g.val * 4 + u.val, by omega⟩ x) := by
  pointwise [val_main_v14, val_main_v13, val_main_v12, val_main_v10, val_main_v9]

/-- The largest score of a row. -/
theorem largest_ctx (b : Fin 2) (R : Fin 256) (g : Fin 2) (u : Fin 4) :
    val_main_v17 (F := Ideal) q k (ix4 b g u R)
      = (Finset.univ.fold max (⊥ : EReal) fun j : Fin 256 => val_main_v14 (F := Ideal) q k (ix5 b g u R j)) := by
  rw [val_main_v17_apply, val_main_v16_apply, val_main_cst_0_apply, neg_inf_max, val_main_v15]
  exact largest_last _ _ _ _ ((val_main_cst_apply (F := Ideal) _).trans Cert.Proof.Attn.neg_inf) b g u R

/-- The normalised exponentials of a row. -/
theorem probs_ctx (b : Fin 2) (R : Fin 256) (g : Fin 2) (u : Fin 4) (j : Fin 256) :
    val_main_v25 (F := Ideal) q k (ix5 b g u R j)
      = Ideal.div (Ideal.exp (val_main_v14 (F := Ideal) q k (ix5 b g u R j) - val_main_v17 (F := Ideal) q k (ix4 b g u R)))
          (∑ x : Fin 256, Ideal.exp (val_main_v14 (F := Ideal) q k (ix5 b g u R x) - val_main_v17 (F := Ideal) q k (ix4 b g u R))) := by
  pointwise [val_main_v25, val_main_v24, val_main_v23, val_main_v22, val_main_v21, val_main_v20, val_main_v19, val_main_v18, val_main_cst_1]

/-- The values weighted by them. -/
theorem mixed_ctx (b : Fin 2) (R : Fin 256) (n : Fin 512) :
    val_main_v28 (F := Ideal) q k v (ix3 b R n)
      = ∑ j : Fin 256, val_main_v8 (F := Ideal) v (ix4 b ⟨j.val, by omega⟩ ⟨n.val / 256, by omega⟩ ⟨n.val % 64, by omega⟩)
          * val_main_v25 (F := Ideal) q k (ix5 b ⟨n.val / 256, by omega⟩ ⟨n.val / 64 % 4, by omega⟩ R j) := by
  pointwise [val_main_v28, val_main_v27, val_main_v26, val_main_v11]

end Cert.Proof.Ref

end
-- ==== Proof.RefLatent.lean ====
/-
  The reference's attention of the tokens after the context, stage by stage at an index.
-/
module

public import proofs.«01_k».proof.Proof.RefHeads
public import Idealize.ShloMosaic.Lib.Pointwise

@[expose] public section

set_option maxRecDepth 16384

noncomputable section

namespace Cert.Proof.Ref

open Cert.ReferenceIdeal Cert.ReferenceIdeal.Gen Cert.ReferenceIdeal.Read
open Idealize.ShloMosaic

variable (q : Vec Ideal S2x8x8448x128 .bf16) (k v : Vec Ideal S2x8448x128 .bf16)

/-- The scores. -/
theorem scores_lat (b : Fin 2) (R : Fin 8192) (g : Fin 2) (u : Fin 4) (j : Fin 8448) :
    val_main_v32 (F := Ideal) q k (ix5 b g u R j)
      = ∑ x : Fin 64, val_main_v7 (F := Ideal) k (ix4 b j g x) * val_main_v6 (F := Ideal) q (ix4 b ⟨256 + R.val, by omega⟩ ⟨g.val * 4 + u.val, by omega⟩ x) := by
  pointwise [val_main_v32, val_main_v31, val_main_v30, val_main_v29]

/-- The largest score of a row. -/
theorem largest_lat (b : Fin 2) (R : Fin 8192) (g : Fin 2) (u : Fin 4) :
    val_main_v35 (F := Ideal) q k (ix4 b g u R)
      = (Finset.univ.fold max (⊥ : EReal) fun j : Fin 8448 => val_main_v32 (F := Ideal) q k (ix5 b g u R j)) := by
  rw [val_main_v35_apply, val_main_v34_apply, val_main_cst_3_apply, neg_inf_max, val_main_v33]
  exact largest_last _ _ _ _ ((val_main_cst_2_apply (F := Ideal) _).trans Cert.Proof.Attn.neg_inf) b g u R

/-- The normalised exponentials of a row. -/
theorem probs_lat (b : Fin 2) (R : Fin 8192) (g : Fin 2) (u : Fin 4) (j : Fin 8448) :
    val_main_v43 (F := Ideal) q k (ix5 b g u R j)
      = Ideal.div (Ideal.exp (val_main_v32 (F := Ideal) q k (ix5 b g u R j) - val_main_v35 (F := Ideal) q k (ix4 b g u R)))
          (∑ x : Fin 8448, Ideal.exp (val_main_v32 (F := Ideal) q k (ix5 b g u R x) - val_main_v35 (F := Ideal) q k (ix4 b g u R))) := by
  pointwise [val_main_v43, val_main_v42, val_main_v41, val_main_v40, val_main_v39, val_main_v38, val_main_v37, val_main_v36, val_main_cst_4]

/-- The values weighted by them. -/
theorem mixed_lat (b : Fin 2) (R : Fin 8192) (n : Fin 512) :
    val_main_v46 (F := Ideal) q k v (ix3 b R n)
      = ∑ j : Fin 8448, val_main_v8 (F := Ideal) v (ix4 b j ⟨n.val / 256, by omega⟩ ⟨n.val % 64, by omega⟩)
          * val_main_v43 (F := Ideal) q k (ix5 b ⟨n.val / 256, by omega⟩ ⟨n.val / 64 % 4, by omega⟩ R j) := by
  pointwise [val_main_v46, val_main_v45, val_main_v44]

end Cert.Proof.Ref

end
-- ==== Proof.OutBlock.lean ====
/-
  The block of attention results read at an index: column `64 * h + c` of query row `r` is lane `c` of head `h`'s accumulator
  over its sum, in the half of the lanes that belongs to the head's key/value head.
-/
module

public import proofs.«01_k».proof.Proof.State
public import Idealize.ShloMosaic.Lib.Pointwise
public import Idealize.ShloMosaic.Lib.Pipeline.ValueKit.Tiles

@[expose] public section

set_option maxRecDepth 16384

noncomputable section

namespace Cert.Proof.Attn

open Cert.KernelIdeal Cert.KernelIdeal.Gen
open Idealize.ShloMosaic

/-- A head's accumulator over its sum, at a row and lane. -/
def quot (st : Head Ideal) (r : Fin 256) (c : Fin 128) : EReal := Ideal.div (st.2.2 (ix2 r c)) (st.2.1 (ix2 r 0))

/-- The head a result column belongs to. -/
def headOf (n : Fin 512) : Fin 8 := ⟨n.val / 64, by omega⟩
/-- The lane of that head's accumulator. -/
def laneOf (n : Fin 512) : Fin 128 := ⟨n.val % 64 + (if n.val / 64 < 4 then 0 else 64), by split <;> omega⟩

/-- The lane mask. -/
theorem low_lane (r : Fin 256) (c : Fin 128) : k0_pay27 lanes (ix2 r c) = if c.val < 64 then 1#1 else 0#1 := by
  pointwise [k0_pay27, lanes]
  revert c; decide

theorem select_low {α : Type} (r : Fin 256) (c : Fin 128) (x y : α) :
    Scalar.select (k0_pay27 lanes (ix2 r c)) x y = if c.val < 64 then x else y := by
  rw [low_lane]; split <;> rfl

section Stores

variable (s t : Head Ideal) (r : Fin 256) (c : Fin 128)

theorem store0 : k0_pay28 lanes s.2.2 s.2.1 t.2.2 t.2.1 (ix3 0 r c) = if c.val < 64 then quot s r c else quot t r ⟨(c.val + 64) % 128, by omega⟩ := by
  pointwise [k0_pay28]
  rw [select_low]; rfl
theorem store1 : k0_pay29 lanes s.2.2 s.2.1 t.2.2 t.2.1 (ix3 0 r c) = if c.val < 64 then quot s r c else quot t r ⟨(c.val + 64) % 128, by omega⟩ := by
  pointwise [k0_pay29]
  rw [select_low]; rfl
theorem store2 : k0_pay1 (k0_pay27 lanes) s.2.2 s.2.1 t.2.2 t.2.1 (ix3 0 r c) = if c.val < 64 then quot s r ⟨(c.val + 64) % 128, by omega⟩ else quot t r c := by
  pointwise [k0_pay1]
  rw [select_low]; rfl
theorem store3 : k0_pay2 (k0_pay27 lanes) s.2.2 s.2.1 t.2.2 t.2.1 (ix3 0 r c) = if c.val < 64 then quot s r ⟨(c.val + 64) % 128, by omega⟩ else quot t r c := by
  pointwise [k0_pay2]
  rw [select_low]; rfl

end Stores

theorem quot_congr (e : Fin 8 → Head Ideal) (r : Fin 256) {h h' : Fin 8} {c c' : Fin 128} (hh : h.val = h'.val) (hc : c.val = c'.val) :
    quot (e h) r c = quot (e h') r c' := by rw [Fin.ext hh, Fin.ext hc]

/-- The block of results at a row and column. -/
theorem outPieces_at (e : Fin 8 → Head Ideal) (r : Fin 256) (n : Fin 512) :
    View.canon (outPieces e) (ix3 0 r n) = quot (e (headOf n)) r (laneOf n) := by
  refine View.canon_eq_of_allAt _ _ _ (stores_cover _ _ _ _ _) ?_
  refine View.allAt_cons_unit _ _ _ _ _ ?_ (View.allAt_cons_unit _ _ _ _ _ ?_ (View.allAt_cons_unit _ _ _ _ _ ?_
    (View.allAt_cons_unit _ _ _ _ _ ?_ (View.allAt_nil _ _))))
  all_goals
    intro x hx
    obtain ⟨a, b, c, rfl⟩ : ∃ (a : Fin 1) (b : Fin 256) (c : Fin 128), x = ix3 a b c := ⟨x 0, x 1, x 2, eq_ix3 x⟩
    have h1 : r.val = 0 + b.val := hx 1
    have h2 := hx 2
    obtain rfl : r = b := Fin.ext (by omega)
    obtain rfl : a = 0 := Subsingleton.elim _ _
  · have h2 : n.val = 384 + c.val := h2
    refine (store3 _ _ _ _).trans ?_
    split <;> refine quot_congr e r ?_ ?_ <;> simp [headOf, laneOf] <;> (try split) <;> omega
  · have h2 : n.val = 256 + c.val := h2
    refine (store2 _ _ _ _).trans ?_
    split <;> refine quot_congr e r ?_ ?_ <;> simp [headOf, laneOf] <;> (try split) <;> omega
  · have h2 : n.val = 128 + c.val := h2
    refine (store1 _ _ _ _).trans ?_
    split <;> refine quot_congr e r ?_ ?_ <;> simp [headOf, laneOf] <;> (try split) <;> omega
  · have h2 : n.val = 0 + c.val := h2
    refine (store0 _ _ _ _).trans ?_
    split <;> refine quot_congr e r ?_ ?_ <;> simp [headOf, laneOf] <;> (try split) <;> omega

end Cert.Proof.Attn

end
-- ==== Proof.ArrayValue.lean ====
/-
  The array of attention results after the run, over the extended reals: the softmax rows of the argument arrays, wherever the
  scores are real.
-/
module

public import proofs.«01_k».proof.Proof.AttnRun
public import proofs.«01_k».proof.Proof.Steps
public import proofs.«01_k».proof.Proof.OutBlock
public import Idealize.ShloMosaic.Lib.Pipeline.Value
public import Idealize.ShloMosaic.Lib.Pipeline.ValueKit

@[expose] public section

set_option maxRecDepth 16384

noncomputable section

namespace Cert.Proof.Attn

open Cert.KernelIdeal Cert.KernelIdeal.Gen
open Idealize.ShloMosaic Idealize.ShloMosaic.TcCoe Idealize.SL.Sem
open Idealize.ShloMosaic.Pipeline (Dat)

/-- Query token `R` of head `h` of batch entry `b` against key `j`, over all 128 lanes. -/
def score (q : Vec Ideal S2x8x8448x128 .bf16) (k : Vec Ideal S2x8448x128 .bf16) (b : Fin 2) (h : Fin 8) (R : Fin 8448) (j : ℕ) : EReal :=
  if hj : j < 8448 then ∑ x : Fin 128, q (ix4 b h R x) * k (ix3 b ⟨j, hj⟩ x) else 0

/-- Lane `c` of value `j` of batch entry `b`. -/
def value (v : Vec Ideal S2x8448x128 .bf16) (b : Fin 2) (c : Fin 128) (j : ℕ) : EReal :=
  if hj : j < 8448 then v (ix3 b ⟨j, hj⟩ c) else 0

/-- The number of keys a query token sees: the context tokens see the context, the others every token. -/
def keys (R : Fin 8448) : ℕ := if R.val < 256 then 256 else 8448

/-- The attention of a batch entry, at a token and a result column. -/
def attn (q : Vec Ideal S2x8x8448x128 .bf16) (k v : Vec Ideal S2x8448x128 .bf16) (b : Fin 2) (R : Fin 8448) (n : Fin 512) : EReal :=
  Softmax.row (fun j => (score q k b (headOf n) R j).toReal) (value v b (laneOf n)) (keys R)

/-- The array of results. -/
def attnArray (q : Vec Ideal S2x8x8448x128 .bf16) (k v : Vec Ideal S2x8448x128 .bf16) : Vec Ideal S2x8448x512 .f32 :=
  fun y => attn q k v (y 0) (y 1) (y 2)

/-- Every score is real. -/
def RealScores (q : Vec Ideal S2x8x8448x128 .bf16) (k : Vec Ideal S2x8448x128 .bf16) : Prop :=
  ∀ b h R j, score q k b h R j = ((score q k b h R j).toReal : EReal)

theorem idx0 : ∀ t : Fin cfg0.N, win0_0.index t = ![(grid0.coords t 0).val, 0, (grid0.coords t 1).val, 0] := (by decide +kernel : ∀ t : Fin grid0.N, _)
theorem idx1 : ∀ t : Fin cfg0.N, win0_1.index t = ![(grid0.coords t 0).val, 0, 0] := (by decide +kernel : ∀ t : Fin grid0.N, _)
theorem idx2 : ∀ t : Fin cfg0.N, win0_2.index t = ![(grid0.coords t 0).val, 0, 0] := (by decide +kernel : ∀ t : Fin grid0.N, _)
theorem idx3 : ∀ t : Fin cfg0.N, win0_3.index t = ![(grid0.coords t 0).val, (grid0.coords t 1).val, 0] := (by decide +kernel : ∀ t : Fin grid0.N, _)

variable (m : (ℓ : Loc nD τ sig) → Buf (Elt Ideal) ℓ) (c : Dev nD)

/-- The batch entry of a grid point. -/
def entry (t : Fin cfg0.N) : Fin 2 := grid0.coords t 0
/-- The token of a grid point's query row. -/
def token (t : Fin cfg0.N) (r : Fin 256) : Fin 8448 :=
  ⟨(grid0.coords t 1).val * 256 + r.val, by have : (grid0.coords t 1).val < 33 := (grid0.coords t 1).isLt; omega⟩

theorem block0 (t : Fin cfg0.N) (h : Fin 8) (r : Fin 256) (x : Fin 128) :
    iblk m c 0 t (ix4 0 h r x) = V m c main_arg0 (ix4 (entry t) h (token t r) x) := by
  blk_simp [iblk]
  refine congrArg (V m c main_arg0) ?_
  blk_ext [idx0]
  all_goals simp [ix4, entry, token]

theorem block1 (t : Fin cfg0.N) (j : Fin 8448) (x : Fin 128) :
    iblk m c 1 t (ix3 0 j x) = V m c main_arg1 (ix3 (entry t) j x) := by
  blk_simp [iblk]
  refine congrArg (V m c main_arg1) ?_
  blk_ext [idx1]
  all_goals simp [ix3, entry]

theorem block2 (t : Fin cfg0.N) (j : Fin 8448) (x : Fin 128) :
    iblk m c 2 t (ix3 0 j x) = V m c main_arg2 (ix3 (entry t) j x) := by
  blk_simp [iblk]
  refine congrArg (V m c main_arg2) ?_
  blk_ext [idx2]
  all_goals simp [ix3, entry]

theorem score_eq (t : Fin cfg0.N) (h : Fin 8) (r : Fin 256) (j : ℕ) :
    scoreAt (iblk m c 0 t) (iblk m c 1 t) h r j = score (V m c main_arg0) (V m c main_arg1) (entry t) h (token t r) j := by
  unfold scoreAt score
  split
  · exact Finset.sum_congr rfl fun x _ => by rw [block0, block1]
  · rfl

theorem value_eq (t : Fin cfg0.N) (x : Fin 128) : valueAt (iblk m c 2 t) x = value (V m c main_arg2) (entry t) x := by
  funext j
  unfold valueAt value
  split
  · rw [block2]
  · rfl

theorem keys_eq (t : Fin cfg0.N) (r : Fin 256) : (if (grid0.coords t 1).val = 0 then 256 else 8448) = keys (token t r) := by
  unfold keys token
  dsimp only
  split <;> split <;> omega

/-- One element of a block of results. -/
theorem outBlock_at (hr : RealScores (V m c main_arg0) (V m c main_arg1)) (t : Fin cfg0.N) (r : Fin 256) (n : Fin 512) :
    outBlock (grid0.coords t) (iblk m c 0 t) (iblk m c 1 t) (iblk m c 2 t) (ix3 0 r n)
      = attn (V m c main_arg0) (V m c main_arg1) (V m c main_arg2) (entry t) (token t r) n := by
  refine (outPieces_at _ r n).trans ?_
  unfold quot
  rw [headEnd_quot _ _ _ _ _ _ (fun j => (score (V m c main_arg0) (V m c main_arg1) (entry t) (headOf n) (token t r) j).toReal)
    (fun j => (score_eq m c t _ r j).trans (hr _ _ _ _)), value_eq, keys_eq t r]
  rfl

/-- The array of results after the run. -/
theorem final (hr : RealScores (V m c main_arg0) (V m c main_arg1)) :
    (dats m 0 c).arrAt 3 cfg0.N = attnArray (V m c main_arg0) (V m c main_arg1) (V m c main_arg2) := by
  refine (dats m 0 c).arrAt_eq_of_covers 3 _ (by decide +kernel) fun t hf y => ?_
  obtain ⟨a, r, n, rfl⟩ : ∃ (a : Fin 1) (r : Fin 256) (n : Fin 512), y = ix3 a r n := ⟨y 0, y 1, y 2, eq_ix3 y⟩
  obtain rfl : a = 0 := Subsingleton.elim _ _
  refine Eq.trans (b := outBlock (grid0.coords t) (iblk m c 0 t) (iblk m c 1 t) (iblk m c 2 t) (ix3 0 r n)) ?_ ?_
  · blk_simp; rw [after0_3]
  · rw [outBlock_at m c hr]
    have e : (win0_3.blk t).view.emb (ix3 0 r n) = (ix3 (entry t) (token t r) n : S2x8448x512.Idx) := by
      blk_ext [idx3]
      all_goals simp [ix3, entry, token]
    exact (congrArg (attnArray (V m c main_arg0) (V m c main_arg1) (V m c main_arg2)) e).symm

end Cert.Proof.Attn

end
-- ==== Proof.PreReal.lean ====
/-
  What the precondition says of the queries and keys: they are real numbers, and a query row is zero on the lanes that face the
  other key/value head.
-/
module

public import proofs.«01_k».proof.Proof.Gen.Pre_packed_and_finite
public import proofs.«01_k».proof.Proof.ArrayValue
public import Idealize.ShloMosaic.Lib.Pointwise

@[expose] public section

set_option maxRecDepth 16384

noncomputable section

namespace Cert.Proof.Attn

open Idealize.ShloMosaic Cert.Pre_packed_and_finite Cert.Pre_packed_and_finite.Gen

variable (q : Vec Ideal S2x8x8448x128 .bf16) (k v : Vec Ideal S2x8448x128 .bf16)

/-- Positive infinity. -/
theorem pos_inf : Ideal.ofBits .f32 0x7F800000#32 = ⊤ := by simp [Ideal.ofBits, Ideal.ieee]

/-- A number whose absolute value is below infinity is real. -/
theorem real_of_abs (a : EReal) (h : (FloatOps.absf (F := Ideal) (φ := .f32) a : EReal) < ⊤) : a = (a.toReal : EReal) := by
  have h' : max a (-a) < ⊤ := h
  rw [max_lt_iff] at h'
  refine (EReal.coe_toReal h'.1.ne fun e => ?_).symm
  rw [e] at h'; simp at h'

/-- A comparison's bit is one only where the comparison holds. -/
theorem bit_true {p : Prop} [Decidable p] (h : BitVec.ofBool (decide p) = 1#1) : p := by
  by_contra hp
  rw [decide_eq_false hp] at h
  exact absurd h (by decide)

theorem and_bits : ∀ a b : BitVec 1, IntOp.andi a b = 1#1 → a = 1#1 ∧ b = 1#1 := by decide

theorem or_bits : ∀ a b : BitVec 1, IntOp.ori a b = 1#1 → a = 1#1 ∨ b = 1#1 := by decide

/-- The bit that says a lane faces the query head's own key/value head. -/
theorem own_bit : ∀ (h : Fin 8) (x : Fin 128), IntOp.cmpi CmpIPredicate.eq (IntOp.cmpi CmpIPredicate.slt (BitVec.ofNat 32 h.val) 4#32)
    (IntOp.cmpi CmpIPredicate.slt (BitVec.ofNat 32 x.val) 64#32) = 1#1 → (h.val < 4 ↔ x.val < 64) := by decide +kernel

/-- The precondition at an index. -/
theorem fn_at (b : Fin 2) (h : Fin 8) (R : Fin 8448) (x : Fin 128) (hp : fn (F := Ideal) q k v (ix4 b h R x) = 1#1) :
    (q (ix4 b h R x) = ((q (ix4 b h R x)).toReal : EReal) ∧ k (ix3 b R x) = ((k (ix3 b R x)).toReal : EReal))
      ∧ ((h.val < 4 ↔ x.val < 64) ∨ q (ix4 b h R x) = 0) := by
  revert hp
  pointwise [fn, fn_part1]
  intro hp
  have h1 := and_bits _ _ hp
  have h2 := and_bits _ _ h1.1
  refine ⟨⟨real_of_abs _ (pos_inf ▸ bit_true h2.1), real_of_abs _ (pos_inf ▸ bit_true h2.2)⟩, ?_⟩
  rcases or_bits _ _ h1.2 with h3 | h3
  · exact Or.inl (own_bit h x h3)
  · exact Or.inr (bit_true h3)

/-- A query row is zero on the lanes that face the other key/value head. -/
def Packed : Prop := ∀ (b : Fin 2) (h : Fin 8) (R : Fin 8448) (x : Fin 128), ¬(h.val < 4 ↔ x.val < 64) → q (ix4 b h R x) = 0

/-- Under the precondition a query row is so. -/
theorem packed_of_pre (hp : fn (F := Ideal) q k v = fun _ => 1#1) : Packed q := fun b h R x hx =>
  (fn_at q k v b h R x (congrFun hp _)).2.resolve_left hx

/-- A sum of real numbers is real. -/
theorem sum_real {ι : Type} (t : Finset ι) (f : ι → EReal) (hf : ∀ i, f i = ((f i).toReal : EReal)) : ∑ i ∈ t, f i = ((∑ i ∈ t, f i).toReal : EReal) := by
  have e : ∑ i ∈ t, f i = ((∑ i ∈ t, (f i).toReal : ℝ) : EReal) := by
    rw [Finset.sum_congr rfl fun i _ => hf i]
    exact (map_sum (⟨⟨(fun r : ℝ => (r : EReal)), rfl⟩, EReal.coe_add⟩ : ℝ →+ EReal) _ _).symm
  rw [e, EReal.toReal_coe]

/-- Under the precondition every score is real. -/
theorem realScores_of_pre (hp : fn (F := Ideal) q k v = fun _ => 1#1) : RealScores q k := by
  intro b h R j
  unfold score
  split
  · rename_i hj
    refine sum_real _ _ fun x => ?_
    have hq := (fn_at q k v b h R x (congrFun hp _)).1.1
    have hk := (fn_at q k v b h ⟨j, hj⟩ x (congrFun hp _)).1.2
    rw [hq, hk, ← EReal.coe_mul, EReal.toReal_coe]
  · simp

end Cert.Proof.Attn

end
-- ==== Proof.RefValue.lean ====
/-
  The reference's result is the array of rows of attention that the kernel computes.
-/
module

public import proofs.«01_k».proof.Proof.RefContext
public import proofs.«01_k».proof.Proof.RefLatent
public import proofs.«01_k».proof.Proof.PreReal

@[expose] public section

set_option maxRecDepth 16384

noncomputable section

namespace Cert.Proof.Ref

open Cert.ReferenceIdeal Cert.ReferenceIdeal.Gen Cert.ReferenceIdeal.Read
open Idealize.ShloMosaic Cert.Proof.Attn

/-- A softmax written with its largest score found first, its exponentials then summed and divided, mixes the values as `Softmax.row`
    does. -/
theorem softmax_row {N : ℕ} (s : ℕ → ℝ) (v : ℕ → EReal) (S w P : Fin N → EReal) (M : EReal) (hS : ∀ j, S j = (s j.val : EReal))
    (hw : ∀ j, w j = v j.val) (hM : M = Finset.univ.fold max ⊥ S)
    (hP : ∀ j, P j = Ideal.div (Ideal.exp (S j - M)) (∑ x, Ideal.exp (S x - M))) : ∑ j, w j * P j = Softmax.row s v N := by
  have hM' : M = Softmax.top s N := by
    rw [hM, ← Softmax.fold_block s N]; exact congrArg (Finset.univ.fold max ⊥) (funext hS)
  have hE : ∀ j, Ideal.exp (S j - M) = Softmax.weight s N j.val := fun j => by rw [hS j, hM']; rfl
  have hT : ∑ x, Ideal.exp (S x - M) = Softmax.total s N := by
    unfold Softmax.total
    rw [Finset.sum_congr rfl fun x _ => hE x, Finset.sum_range]
  unfold Softmax.row
  rw [Finset.sum_range]
  refine Finset.sum_congr rfl fun j _ => ?_
  rw [hP j, hE j, hT, hw j, mul_comm]

variable (q : Vec Ideal S2x8x8448x128 .bf16) (k v : Vec Ideal S2x8448x128 .bf16)

/-- Over the lanes of a packed query row, the product with a key row is the product over the 64 lanes of its own key/value head. -/
theorem own_lanes (hq : Packed q) (b : Fin 2) (h : Fin 8) (R j : Fin 8448) :
    score q k b h R j.val = ∑ x : Fin 64, k (ix3 b j ⟨x.val + (if h.val < 4 then 0 else 64), by split <;> omega⟩)
      * q (ix4 b h R ⟨x.val + (if h.val < 4 then 0 else 64), by split <;> omega⟩) := by
  unfold score
  rw [dif_pos j.isLt, Fin.sum_univ_two_halves 64 64 rfl fun x : Fin 128 => q (ix4 b h R x) * k (ix3 b j x)]
  by_cases hh : h.val < 4
  · simp only [hh, if_true]
    have h0 : ∑ x : Fin 64, q (ix4 b h R ⟨64 + x.val, by omega⟩) * k (ix3 b j ⟨64 + x.val, by omega⟩) = 0 :=
      Finset.sum_eq_zero fun x _ => by rw [hq b h R _ (by dsimp only; omega), zero_mul]
    refine (congrArg _ h0).trans ((add_zero _).trans (Finset.sum_congr rfl fun x _ => ?_))
    rw [mul_comm]; rfl
  · simp only [hh, if_false]
    have h0 : ∑ x : Fin 64, q (ix4 b h R ⟨x.val, by omega⟩) * k (ix3 b j ⟨x.val, by omega⟩) = 0 :=
      Finset.sum_eq_zero fun x _ => by rw [hq b h R _ (by dsimp only; omega), zero_mul]
    refine (congrArg (· + _) h0).trans ((zero_add _).trans (Finset.sum_congr rfl fun x _ => ?_))
    rw [mul_comm]
    exact congrArg₂ (· * ·) (congrArg (fun a => k (ix3 b j a)) (Fin.ext (Nat.add_comm _ _))) (congrArg (fun a => q (ix4 b h R a)) (Fin.ext (Nat.add_comm _ _)))

/-- The reference's product of a query row and a key row, by head, is the score. -/
theorem head_score (hq : Packed q) (b : Fin 2) (g : Fin 2) (u : Fin 4) (R j : Fin 8448) :
    ∑ x : Fin 64, val_main_v7 (F := Ideal) k (ix4 b j g x) * val_main_v6 (F := Ideal) q (ix4 b R ⟨g.val * 4 + u.val, by omega⟩ x)
      = score q k b ⟨g.val * 4 + u.val, by omega⟩ R j.val := by
  rw [own_lanes q k hq]
  refine Finset.sum_congr rfl fun x _ => ?_
  rw [key_at, query_at]
  refine congrArg (· * _) (congrArg (fun a => k (ix3 b j a)) (Fin.ext ?_))
  dsimp only
  split <;> omega

/-- A column of the result names its head and the lane of its values. -/
theorem column (n : Fin 512) : headOf n = ⟨n.val / 256 * 4 + n.val / 64 % 4, by omega⟩ ∧ (laneOf n).val = n.val / 256 * 64 + n.val % 64 := by
  constructor
  · refine Fin.ext ?_
    simp [headOf]; omega
  · simp [laneOf]
    (try split) <;> omega

/-- The reference's values, by head, are the columns' values. -/
theorem head_value (b : Fin 2) (n : Fin 512) (j : Fin 8448) :
    val_main_v8 (F := Ideal) v (ix4 b j ⟨n.val / 256, by omega⟩ ⟨n.val % 64, by omega⟩) = value v b (laneOf n) j.val := by
  rw [val_at]
  unfold value
  rw [dif_pos j.isLt]
  exact congrArg (fun a => v (ix3 b j a)) (Fin.ext (column n).2.symm)

/-- The reference's row of a context token. -/
theorem context_row (hq : Packed q) (hr : RealScores q k) (b : Fin 2) (R : Fin 256) (n : Fin 512) :
    val_main_v28 (F := Ideal) q k v (ix3 b R n) = attn q k v b ⟨R.val, by omega⟩ n := by
  rw [mixed_ctx]
  unfold attn keys
  rw [if_pos R.isLt]
  refine softmax_row _ _ _ _ _ _ (fun j => ?_) (fun j => head_value v b n ⟨j.val, by omega⟩) (largest_ctx q k b R _ _) (probs_ctx q k b R _ _)
  rw [scores_ctx, head_score q k hq b _ _ ⟨R.val, by omega⟩ ⟨j.val, by omega⟩, (column n).1]
  exact hr _ _ _ _

/-- The reference's row of a token after the context. -/
theorem latent_row (hq : Packed q) (hr : RealScores q k) (b : Fin 2) (R : Fin 8192) (n : Fin 512) :
    val_main_v46 (F := Ideal) q k v (ix3 b R n) = attn q k v b ⟨256 + R.val, by omega⟩ n := by
  rw [mixed_lat]
  unfold attn keys
  rw [if_neg (by dsimp only; omega)]
  refine softmax_row _ _ _ _ _ _ (fun j => ?_) (fun j => head_value v b n j) (largest_lat q k b R _ _) (probs_lat q k b R _ _)
  rw [scores_lat, head_score q k hq b _ _ ⟨256 + R.val, by omega⟩ j, (column n).1]
  exact hr _ _ _ _

/-- The reference's result, under packed queries and real scores. -/
theorem result_eq (hq : Packed q) (hr : RealScores q k) : val_main_v47 (F := Ideal) q k v = attnArray q k v := by
  funext y
  obtain ⟨b, R, n, rfl⟩ : ∃ b R n, y = ix3 b R n := ⟨y 0, y 1, y 2, eq_ix3 y⟩
  rw [result_at]
  show _ = attn q k v b R n
  by_cases h : R.val < 256
  · rw [dif_pos h]; exact context_row q k v hq hr b ⟨R.val, h⟩ n
  · rw [dif_neg h, latent_row q k v hq hr]
    exact congrArg (fun r => attn q k v b r n) (Fin.ext (by dsimp only; omega))

end Cert.Proof.Ref

end
-- ==== Proof.Algebraic.lean ====
/-
  The kernel and the reference leave the same array, over the extended reals, under the precondition.
-/
module

public import proofs.«01_k».proof.Defs
public import proofs.«01_k».proof.Proof.RefValue
public import proofs.«01_k».proof.Proof.Gen.ReferenceIdeal.Run
public import proofs.«01_k».proof.Proof.AttnRun

@[expose] public section

set_option maxRecDepth 16384

noncomputable section

namespace Cert.Proof.Attn

open Idealize.ShloMosaic

/-- What both leave on a device: the rows of attention of its own arguments. -/
def shared (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v0) :=
  attnArray (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))

/-- The kernel's result is the reference's. -/
theorem algebraic : Cert.algebraic_KernelIdeal_ReferenceIdeal_pre_packed_and_finite := by
  intro m ρ m' ρ' hp hagree
  refine ⟨shared m, ?_, ?_⟩
  · refine (θ_run Cert.KernelIdeal.defs _ _).mono (fun r h c => ⟨((h.1 c).1 3).trans (final m c (realScores_of_pre _ _ _ (hp c))), h.2 c⟩)
      (θ_run_and (run_main (F := Ideal) m ρ) (unchanged m ρ))
  · refine (θ_run Cert.ReferenceIdeal.defs _ _).mono (fun r h c => ⟨(h c).1.trans ?_, (h c).2⟩) (Cert.ReferenceIdeal.Value.run (F := Ideal) m' ρ')
    rw [Cert.ReferenceIdeal.Read.val_main_v47_eq, (hagree c).1, (hagree c).2.1, (hagree c).2.2]
    exact Cert.Proof.Ref.result_eq _ _ _ (packed_of_pre _ _ _ (hp c)) (realScores_of_pre _ _ _ (hp c))

end Cert.Proof.Attn

end
-- ==== Proof.FfnRow.lean ====
/-
  The SwiGLU block of one token over the extended reals: the root-mean-square norm, the modulation by a sample's row, the gated
  hidden layer, and the gated sum added to the token. Both kernels and both references are read as these functions.
-/
module

public import Idealize.ShloMosaic.PureOps.Ideal

@[expose] public section

noncomputable section

namespace Cert.Proof.Ffn

open Idealize.ShloMosaic

/-- The reciprocal root of a token's mean square, the small constant added. -/
def scale (x : Fin 1024 → EReal) : EReal :=
  Ideal.rsqrt (Ideal.div (∑ d, x d * x d) (Ideal.ofBits .f32 0x44800000#32) + Ideal.ofBits .f32 0x358637BD#32)

/-- The root-mean-square norm of a token. -/
def normed (x g : Fin 1024 → EReal) (d : Fin 1024) : EReal := x d * scale x * g d

/-- The normed token, scaled and shifted by the modulation row. -/
def modulated (md : Fin 6144 → EReal) (x g : Fin 1024 → EReal) (d : Fin 1024) : EReal :=
  normed x g d * (1 + md ⟨4096 + d.val, by omega⟩) + md ⟨3072 + d.val, by omega⟩

/-- A token times one column of a weight. -/
def times {k n : ℕ} (u : Fin k → EReal) (w : Fin k → Fin n → EReal) (f : Fin n) : EReal := ∑ d, u d * w d f

/-- The activation: a number times its logistic. -/
def silu (a : EReal) : EReal := a * Ideal.div 1 (1 + Ideal.exp (-a))

/-- The gated hidden layer of a token. -/
def hidden (u : Fin 1024 → EReal) (w1 w3 : Fin 1024 → Fin 2816 → EReal) (f : Fin 2816) : EReal :=
  silu (times u w1 f) * times u w3 f

/-- The SwiGLU block of a token: the token plus the gate times the hidden layer sent back to the model's width. -/
def block (md : Fin 6144 → EReal) (g : Fin 1024 → EReal) (w1 w3 : Fin 1024 → Fin 2816 → EReal) (w2 : Fin 2816 → Fin 1024 → EReal)
    (x : Fin 1024 → EReal) (n : Fin 1024) : EReal :=
  x n + md ⟨5120 + n.val, by omega⟩ * times (hidden (modulated md x g) w1 w3) w2 n

end Cert.Proof.Ffn

end
-- ==== Proof.FfnBody.lean ====
/-
  One block of tokens that the SwiGLU kernel stores, over the extended reals: the SwiGLU block of each of its tokens.
-/
module

public import proofs.«01_k».proof.Proof.Gen.Kernel2Ideal.Skeleton
public import proofs.«01_k».proof.Proof.FfnRow
public import Idealize.ShloMosaic.Lib.Pointwise

@[expose] public section

set_option maxRecDepth 16384

noncomputable section

namespace Cert.Proof.Ffn

open Cert.Kernel2Ideal Cert.Kernel2Ideal.Gen
open Idealize.ShloMosaic

/-- Row `r` of a block of tokens. -/
abbrev tokenOf (x : Vec Ideal S1x256x1024 .f32) (r : Fin 256) : Fin 1024 → EReal := fun d => x (ix3 0 r d)
/-- The one row of a one-row array. -/
abbrev rowOf {n : ℕ} (x : Vec Ideal ⟨2, ![1, n]⟩ .f32) : Fin n → EReal := fun d => x (ix2 0 d)
/-- A weight by its row and column. -/
abbrev weight {k n : ℕ} (w : Vec Ideal ⟨2, ![k, n]⟩ .bf16) : Fin k → Fin n → EReal := fun a b => w (ix2 a b)

section

variable (md : Vec Ideal S1x6144 .f32) (x : Vec Ideal S1x256x1024 .f32) (g : Vec Ideal S1x1024 .f32)
  (w1 w3 : Vec Ideal S1024x2816 .bf16) (w2 : Vec Ideal S2816x1024 .bf16) (r : Fin 256)

/-- The modulated tokens of a block. -/
theorem pay4_at (d : Fin 1024) : k0_pay4 md x g (ix2 r d) = modulated (rowOf md) (tokenOf x r) (rowOf g) d := by
  pointwise [k0_pay4, k0_pay3]
  rfl

/-- The first product of a block. -/
theorem pay5_at (f : Fin 2816) : k0_pay5 md x g w1 (ix2 r f) = times (modulated (rowOf md) (tokenOf x r) (rowOf g)) (weight w1) f := by
  pointwise [k0_pay5]
  simp only [pay4_at]
  rfl

/-- The second product of a block. -/
theorem pay6_at (f : Fin 2816) : k0_pay6 md x g w3 (ix2 r f) = times (modulated (rowOf md) (tokenOf x r) (rowOf g)) (weight w3) f := by
  pointwise [k0_pay6]
  simp only [pay4_at]
  rfl

/-- The exponentials of a block. -/
theorem pay7_at (f : Fin 2816) :
    k0_pay7 md x g w1 (ix2 r f) = Ideal.exp (-times (modulated (rowOf md) (tokenOf x r) (rowOf g)) (weight w1) f) := by
  pointwise [k0_pay7]
  rw [pay5_at]
  simp

/-- The block stored, from the arrays read. -/
def stored (md : Vec Ideal S1x6144 .f32) (x : Vec Ideal S1x256x1024 .f32) (g : Vec Ideal S1x1024 .f32)
  (w1 w3 : Vec Ideal S1024x2816 .bf16) (w2 : Vec Ideal S2816x1024 .bf16) : Vec Ideal S1x256x1024 .f32 :=
  k0_pay1 (k0_pay2 md) (k0_pay3 x) (k0_pay5 md x g w1) (k0_pay6 md x g w3) (k0_pay7 md x g w1) (Scalar.ofBits .f32 0x3F800000#32) w2

/-- The block stored is the SwiGLU block of each token. -/
theorem stored_at (n : Fin 1024) : stored md x g w1 w3 w2 (ix3 0 r n)
    = block (rowOf md) (rowOf g) (weight w1) (weight w3) (weight w2) (tokenOf x r) n := by
  pointwise [stored, k0_pay1, k0_pay2, k0_pay3]
  simp only [pay5_at, pay6_at, pay7_at]
  rfl

end

end Cert.Proof.Ffn

end
-- ==== Proof.FfnLastBody.lean ====
/-
  One block of tokens that the last layer's SwiGLU kernel stores, over the extended reals: the SwiGLU block of each of its
  tokens, normed once more.
-/
module

public import proofs.«01_k».proof.Proof.Gen.Kernel3Ideal.Skeleton
public import proofs.«01_k».proof.Proof.FfnBody

@[expose] public section

set_option maxRecDepth 16384

noncomputable section

namespace Cert.Proof.Ffn.Last

open Cert.Kernel3Ideal Cert.Kernel3Ideal.Gen
open Idealize.ShloMosaic

/-- Both calls multiply the same modulated tokens by the first weight. -/
theorem pay5_eq : k0_pay5 (F := Ideal) = Cert.Kernel2Ideal.Gen.k0_pay5 := rfl
/-- Both calls multiply the same modulated tokens by the second weight. -/
theorem pay6_eq : k0_pay6 (F := Ideal) = Cert.Kernel2Ideal.Gen.k0_pay6 := rfl
/-- Both calls take the same exponentials. -/
theorem pay7_eq : k0_pay7 (F := Ideal) = Cert.Kernel2Ideal.Gen.k0_pay7 := rfl

/-- The block stored, from the arrays read. -/
def stored (md : Vec Ideal S1x6144 .f32) (x : Vec Ideal S1x256x1024 .f32) (g : Vec Ideal S1x1024 .f32)
    (w1 w3 : Vec Ideal S1024x2816 .bf16) (w2 : Vec Ideal S2816x1024 .bf16) (fg : Vec Ideal S1x1024 .f32) : Vec Ideal S1x256x1024 .f32 :=
  k0_pay1 (k0_pay2 md) (k0_pay3 x) (k0_pay5 md x g w1) (k0_pay6 md x g w3) (k0_pay7 md x g w1) (Scalar.ofBits .f32 0x3F800000#32) w2 fg

/-- The block stored is the norm of each token's SwiGLU block. -/
theorem stored_at (md : Vec Ideal S1x6144 .f32) (x : Vec Ideal S1x256x1024 .f32) (g : Vec Ideal S1x1024 .f32)
    (w1 w3 : Vec Ideal S1024x2816 .bf16) (w2 : Vec Ideal S2816x1024 .bf16) (fg : Vec Ideal S1x1024 .f32) (r : Fin 256) (n : Fin 1024) :
    stored md x g w1 w3 w2 fg (ix3 0 r n)
      = normed (block (rowOf md) (rowOf g) (weight w1) (weight w3) (weight w2) (tokenOf x r)) (rowOf fg) n := by
  pointwise [stored, k0_pay1, k0_pay2, k0_pay3]
  simp only [pay5_eq, pay6_eq, pay7_eq, pay5_at, pay6_at, pay7_at]
  rfl

end Cert.Proof.Ffn.Last

end
-- ==== Proof.FfnArray.lean ====
/-
  The array the SwiGLU kernel leaves, over the extended reals: the SwiGLU block of every token, the context tokens modulated by
  the third row and the others by their sample's.
-/
module

public import proofs.«01_k».proof.Proof.Gen.Kernel2Ideal.Value
public import proofs.«01_k».proof.Proof.FfnBody
public import proofs.«01_k».proof.Proof.Steps
public import Idealize.ShloMosaic.Lib.Pipeline.Value
public import Idealize.ShloMosaic.Lib.Pipeline.ValueKit

@[expose] public section

set_option maxRecDepth 16384

noncomputable section

namespace Cert.Proof.Ffn

open Cert.Kernel2Ideal Cert.Kernel2Ideal.Gen
open Idealize.ShloMosaic Idealize.ShloMosaic.TcCoe Idealize.SL.Sem
open Idealize.ShloMosaic.Pipeline (Dat)

/-- Row `a` of the modulation. -/
def modOf (md : Vec Ideal S8x6144 .f32) (a : Fin 8) (d : Fin 6144) : EReal := md (ix2 a d)

/-- The modulation row of a token. -/
def modRow (b : Fin 2) (R : Fin 8448) : Fin 8 := if R.val < 256 then 2 else ⟨b.val, by omega⟩

/-- The array of SwiGLU blocks. -/
def blockArray (x : Vec Ideal S2x8448x1024 .f32) (md : Vec Ideal S8x6144 .f32) (g : Vec Ideal S1x1024 .f32)
    (w1 w3 : Vec Ideal S1024x2816 .bf16) (w2 : Vec Ideal S2816x1024 .bf16) : Vec Ideal S2x8448x1024 .f32 :=
  fun y => block (modOf md (modRow (y 0) (y 1))) (rowOf g) (weight w1) (weight w3) (weight w2) (fun d => x (ix3 (y 0) (y 1) d)) (y 2)

/-- The modulation row a grid point loads. -/
def loadedRow (i : grid0.Coords) (md : Vec Ideal S8x6144 .f32) : Vec Ideal S1x6144 .f32 :=
  View.ld md (Rect.unit (s := S8x6144) (k0_off1 i) S1x6144.size (k0_off1_inb i))

/-- Where that row begins. -/
theorem off1_eq (i : grid0.Coords) : k0_off1 i = ![if (i 1).val = 0 then 2 else (i 0).val, 0] := by
  have h0 : (i 0).val < 2 := (i 0).isLt
  have h1 : (i 1).val < 33 := (i 1).isLt
  unfold k0_off1
  generalize (i 0).val = a at h0 ⊢
  generalize (i 1).val = b at h1 ⊢
  revert a b; decide +kernel

theorem zero2 : (![0, 0] : Fin 2 → ℕ) = fun _ => 0 := by funext a; fin_cases a <;> rfl
theorem zero3 : (![0, 0, 0] : Fin 3 → ℕ) = fun _ => 0 := by funext a; fin_cases a <;> rfl

/-- The block a grid point leaves is the block stored from the arrays it reads. -/
theorem out_eq (c : Dev nD) (i : grid0.Coords) (a2 : Memref sig .tc .vmem S1x256x1024 .f32) (h2 : a2.IsWhole)
    (a3 : Memref sig .tc .vmem S8x6144 .f32) (h3 : a3.IsWhole) (a4 : Memref sig .tc .vmem S1x1024 .f32) (h4 : a4.IsWhole)
    (a5 a6 : Memref sig .tc .vmem S1024x2816 .bf16) (h5 : a5.IsWhole) (h6 : a6.IsWhole) (a7 : Memref sig .tc .vmem S2816x1024 .bf16)
    (h7 : a7.IsWhole) (a8 : Memref sig .tc .vmem S1x1024 .f32) (h8 : a8.IsWhole) (a9 : Memref sig .tc .vmem S1x256x1024 .f32)
    (h9 : a9.IsWhole) (x : Vec Ideal S1x256x1024 .f32) (md : Vec Ideal S8x6144 .f32) (g : Vec Ideal S1x1024 .f32)
    (w1 w3 : Vec Ideal S1024x2816 .bf16) (w2 : Vec Ideal S2816x1024 .bf16) (fg : Vec Ideal S1x1024 .f32) :
    out0_A_7 c i a2 h2 a3 h3 a4 h4 a5 h5 a6 h6 a7 h7 a8 h8 a9 h9 x md g w1 w3 w2 fg = stored (loadedRow i md) x g w1 w3 w2 := by
  unfold out0_A_7
  rw [View.read_writes_junk_eq_canon]
  unfold kernelRun0_A
  refine (View.canon_unit_zero zero3 _ _).trans ?_
  unfold kernelRun0_A.sl.r kernelRun0_A.sl.r_1 kernelRun0_A.sl.r_2 kernelRun0_A.sl.r_3 kernelRun0_A.sl.r_4
  simp only [View.readAt_eq_ld]
  rw [h2.read_unread, h3.read_unread, h4.read_unread, h5.read_unread, h6.read_unread, h7.read_unread]
  rw [View.ld_unit_zero (S := S1x256x1024) zero3, View.ld_unit_zero (S := S1x1024) zero2, View.ld_unit_zero (S := S1024x2816) zero2,
    View.ld_unit_zero (S := S1024x2816) zero2, View.ld_unit_zero (S := S2816x1024) zero2]
  rfl

theorem idx0 : ∀ t : Fin cfg0.N, win0_0.index t = ![(grid0.coords t 0).val, (grid0.coords t 1).val, 0] := (by decide +kernel : ∀ t : Fin grid0.N, _)
theorem idx7 : ∀ t : Fin cfg0.N, win0_7.index t = ![(grid0.coords t 0).val, (grid0.coords t 1).val, 0] := (by decide +kernel : ∀ t : Fin grid0.N, _)

variable (m : (ℓ : Loc nD τ sig) → Buf (Elt Ideal) ℓ) (c : Dev nD)

/-- The sample of a grid point. -/
def sample (t : Fin cfg0.N) : Fin 2 := grid0.coords t 0
/-- The token of a row of a grid point's block. -/
def token (t : Fin cfg0.N) (r : Fin 256) : Fin 8448 :=
  ⟨(grid0.coords t 1).val * 256 + r.val, by have : (grid0.coords t 1).val < 33 := (grid0.coords t 1).isLt; omega⟩

/-- A block of tokens is read from its sample and place. -/
theorem tokens_at (t : Fin cfg0.N) (r : Fin 256) (d : Fin 1024) :
    iblk m c 0 t (ix3 0 r d) = V m c main_arg0 (ix3 (sample t) (token t r) d) := by
  blk_simp [iblk]
  refine congrArg (V m c main_arg0) ?_
  blk_ext [idx0]
  all_goals simp [ix3, sample, token]

theorem idx_whole : ∀ t : Fin cfg0.N, win0_1.index t = ![0, 0] ∧ win0_2.index t = ![0, 0] ∧ win0_3.index t = ![0, 0]
    ∧ win0_4.index t = ![0, 0] ∧ win0_5.index t = ![0, 0] := (by decide +kernel : ∀ t : Fin grid0.N, _)

/-- The other arrays are read whole. -/
theorem whole_blocks (t : Fin cfg0.N) : iblk m c 1 t = V m c main_arg1 ∧ iblk m c 2 t = V m c main_arg2 ∧ iblk m c 3 t = V m c main_arg3
    ∧ iblk m c 4 t = V m c main_arg4 ∧ iblk m c 5 t = V m c main_arg5 := by
  obtain ⟨e1, e2, e3, e4, e5⟩ := idx_whole t
  refine ⟨?_, ?_, ?_, ?_, ?_⟩ <;> funext y <;> blk_simp [iblk]
  · refine congrArg (V m c main_arg1) ?_
    blk_ext [e1]
  · refine congrArg (V m c main_arg2) ?_
    blk_ext [e2]
  · refine congrArg (V m c main_arg3) ?_
    blk_ext [e3]
  · refine congrArg (V m c main_arg4) ?_
    blk_ext [e4]
  · refine congrArg (V m c main_arg5) ?_
    blk_ext [e5]

/-- The loaded modulation row is the one of the grid point's tokens. -/
theorem loadedRow_at (t : Fin cfg0.N) (r : Fin 256) (md : Vec Ideal S8x6144 .f32) :
    rowOf (loadedRow (grid0.coords t) md) = modOf md (modRow (sample t) (token t r)) := by
  funext d
  refine Attn.window_at md _ _ _ _ _ fun a => ?_
  refine Eq.trans ?_ (congrArg (fun y => y + _) (congrFun (off1_eq (grid0.coords t)) a).symm)
  have h : (token t r).val < 256 ↔ (grid0.coords t 1).val = 0 := by unfold token; dsimp only; omega
  fin_cases a
  · simp only [modRow, h, sample, ix2]
    split <;> simp [*]
  · simp [ix2]

/-- One element of a block a grid point stores. -/
theorem block_at (t : Fin cfg0.N) (r : Fin 256) (n : Fin 1024) :
    outsAt0 m c t (ix3 0 r n) = blockArray (V m c main_arg0) (V m c main_arg1) (V m c main_arg2) (V m c main_arg3) (V m c main_arg4)
      (V m c main_arg5) (ix3 (sample t) (token t r) n) := by
  obtain ⟨e1, e2, e3, e4, e5⟩ := whole_blocks m c t
  unfold outsAt0
  rw [out_eq, e1, e2, e3, e4, e5]
  refine (stored_at ..).trans ?_
  rw [loadedRow_at t r, show tokenOf (iblk m c 0 t) r = _ from funext (tokens_at m c t r)]
  rfl

/-- The array after the run. -/
theorem final : (dats m 0 c).arrAt 7 cfg0.N = blockArray (V m c main_arg0) (V m c main_arg1) (V m c main_arg2) (V m c main_arg3)
    (V m c main_arg4) (V m c main_arg5) := by
  refine (dats m 0 c).arrAt_eq_of_covers 7 _ (by decide +kernel) fun t hf y => ?_
  obtain ⟨a, r, n, rfl⟩ : ∃ (a : Fin 1) (r : Fin 256) (n : Fin 1024), y = ix3 a r n := ⟨y 0, y 1, y 2, eq_ix3 y⟩
  obtain rfl : a = 0 := Subsingleton.elim _ _
  refine Eq.trans (b := outsAt0 m c t (ix3 0 r n)) ?_ ?_
  · blk_simp; rw [after0_7]
  · rw [block_at]
    have e : (win0_7.blk t).view.emb (ix3 0 r n) = (ix3 (sample t) (token t r) n : S2x8448x1024.Idx) := by
      blk_ext [idx7]
      all_goals simp [ix3, sample, token]
    exact (congrArg (blockArray (V m c main_arg0) (V m c main_arg1) (V m c main_arg2) (V m c main_arg3) (V m c main_arg4)
      (V m c main_arg5)) e).symm

end Cert.Proof.Ffn

end
-- ==== Proof.FfnLastArray.lean ====
/-
  The array the last layer's SwiGLU kernel leaves, over the extended reals: the SwiGLU block of every token, modulated by its
  sample's row, normed once more.
-/
module

public import proofs.«01_k».proof.Proof.Gen.Kernel3Ideal.Value
public import proofs.«01_k».proof.Proof.FfnLastBody
public import proofs.«01_k».proof.Proof.FfnArray
public import Idealize.ShloMosaic.Lib.Pipeline.Value
public import Idealize.ShloMosaic.Lib.Pipeline.ValueKit

@[expose] public section

set_option maxRecDepth 16384

noncomputable section

namespace Cert.Proof.Ffn.Last

open Cert.Kernel3Ideal Cert.Kernel3Ideal.Gen
open Idealize.ShloMosaic Idealize.ShloMosaic.TcCoe Idealize.SL.Sem
open Idealize.ShloMosaic.Pipeline (Dat)

/-- The array of normed SwiGLU blocks. -/
def blockArray (x : Vec Ideal S2x8192x1024 .f32) (md : Vec Ideal S8x6144 .f32) (g : Vec Ideal S1x1024 .f32)
    (w1 w3 : Vec Ideal S1024x2816 .bf16) (w2 : Vec Ideal S2816x1024 .bf16) (fg : Vec Ideal S1x1024 .f32) : Vec Ideal S2x8192x1024 .f32 :=
  fun y => normed (block (modOf md ⟨(y 0).val, (y 0).isLt.trans (by decide)⟩) (rowOf g) (weight w1) (weight w3) (weight w2)
    (fun d => x (ix3 (y 0) (y 1) d))) (rowOf fg) (y 2)

/-- The modulation row a grid point loads. -/
def loadedRow (i : grid0.Coords) (md : Vec Ideal S8x6144 .f32) : Vec Ideal S1x6144 .f32 :=
  View.ld md (Rect.unit (s := S8x6144) (k0_off1 i) S1x6144.size (k0_off1_inb i))

/-- Where that row begins. -/
theorem off1_eq (i : grid0.Coords) : k0_off1 i = ![(i 0).val, 0] := by
  have h0 : (i 0).val < 2 := (i 0).isLt
  have h1 : (i 1).val < 32 := (i 1).isLt
  unfold k0_off1
  generalize (i 0).val = a at h0 ⊢
  generalize (i 1).val = b at h1 ⊢
  revert a b; decide +kernel

/-- The block a grid point leaves is the block stored from the arrays it reads. -/
theorem out_eq (c : Dev nD) (i : grid0.Coords) (a2 : Memref sig .tc .vmem S1x256x1024 .f32) (h2 : a2.IsWhole)
    (a3 : Memref sig .tc .vmem S8x6144 .f32) (h3 : a3.IsWhole) (a4 : Memref sig .tc .vmem S1x1024 .f32) (h4 : a4.IsWhole)
    (a5 a6 : Memref sig .tc .vmem S1024x2816 .bf16) (h5 : a5.IsWhole) (h6 : a6.IsWhole) (a7 : Memref sig .tc .vmem S2816x1024 .bf16)
    (h7 : a7.IsWhole) (a8 : Memref sig .tc .vmem S1x1024 .f32) (h8 : a8.IsWhole) (a9 : Memref sig .tc .vmem S1x256x1024 .f32)
    (h9 : a9.IsWhole) (x : Vec Ideal S1x256x1024 .f32) (md : Vec Ideal S8x6144 .f32) (g : Vec Ideal S1x1024 .f32)
    (w1 w3 : Vec Ideal S1024x2816 .bf16) (w2 : Vec Ideal S2816x1024 .bf16) (fg : Vec Ideal S1x1024 .f32) :
    out0_A_7 c i a2 h2 a3 h3 a4 h4 a5 h5 a6 h6 a7 h7 a8 h8 a9 h9 x md g w1 w3 w2 fg = stored (loadedRow i md) x g w1 w3 w2 fg := by
  unfold out0_A_7
  rw [View.read_writes_junk_eq_canon]
  unfold kernelRun0_A
  refine (View.canon_unit_zero zero3 _ _).trans ?_
  unfold kernelRun0_A.sl.r kernelRun0_A.sl.r_1 kernelRun0_A.sl.r_2 kernelRun0_A.sl.r_3 kernelRun0_A.sl.r_4
  simp only [View.readAt_eq_ld]
  rw [h2.read_unread, h3.read_unread, h4.read_unread, h5.read_unread, h6.read_unread, h7.read_unread,
    h8.read_unread]
  rw [View.ld_unit_zero (S := S1x256x1024) zero3, View.ld_unit_zero (S := S1x1024) zero2, View.ld_unit_zero (S := S1024x2816) zero2,
    View.ld_unit_zero (S := S1024x2816) zero2, View.ld_unit_zero (S := S2816x1024) zero2,
    View.ld_unit_zero (S := S1x1024) zero2]
  rfl

theorem idx0 : ∀ t : Fin cfg0.N, win0_0.index t = ![(grid0.coords t 0).val, (grid0.coords t 1).val, 0] := (by decide +kernel : ∀ t : Fin grid0.N, _)
theorem idx7 : ∀ t : Fin cfg0.N, win0_7.index t = ![(grid0.coords t 0).val, (grid0.coords t 1).val, 0] := (by decide +kernel : ∀ t : Fin grid0.N, _)

variable (m : (ℓ : Loc nD τ sig) → Buf (Elt Ideal) ℓ) (c : Dev nD)

/-- The sample of a grid point. -/
def sample (t : Fin cfg0.N) : Fin 2 := grid0.coords t 0
/-- The token of a row of a grid point's block. -/
def token (t : Fin cfg0.N) (r : Fin 256) : Fin 8192 :=
  ⟨(grid0.coords t 1).val * 256 + r.val, by have : (grid0.coords t 1).val < 32 := (grid0.coords t 1).isLt; omega⟩

/-- A block of tokens is read from its sample and place. -/
theorem tokens_at (t : Fin cfg0.N) (r : Fin 256) (d : Fin 1024) :
    iblk m c 0 t (ix3 0 r d) = V m c main_arg0 (ix3 (sample t) (token t r) d) := by
  blk_simp [iblk]
  refine congrArg (V m c main_arg0) ?_
  blk_ext [idx0]
  all_goals simp [ix3, sample, token]

theorem idx_whole : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] := (by decide +kernel : ∀ t : Fin grid0.N, _)

/-- The other arrays are read whole. -/
theorem whole_blocks (t : Fin cfg0.N) : iblk m c 1 t = V m c main_arg1 ∧ iblk m c 2 t = V m c main_arg2 ∧ iblk m c 3 t = V m c main_arg3
    ∧ iblk m c 4 t = V m c main_arg4 ∧ iblk m c 5 t = V m c main_arg5 ∧ iblk m c 6 t = V m c main_arg6 := by
  obtain ⟨e1, e2, e3, e4, e5, e6⟩ := idx_whole t
  refine ⟨?_, ?_, ?_, ?_, ?_, ?_⟩ <;> funext y <;> blk_simp [iblk]
  · refine congrArg (V m c main_arg1) ?_
    blk_ext [e1]
  · refine congrArg (V m c main_arg2) ?_
    blk_ext [e2]
  · refine congrArg (V m c main_arg3) ?_
    blk_ext [e3]
  · refine congrArg (V m c main_arg4) ?_
    blk_ext [e4]
  · refine congrArg (V m c main_arg5) ?_
    blk_ext [e5]
  · refine congrArg (V m c main_arg6) ?_
    blk_ext [e6]

/-- The loaded modulation row is the one of the grid point's sample. -/
theorem loadedRow_at (t : Fin cfg0.N) (md : Vec Ideal S8x6144 .f32) :
    rowOf (loadedRow (grid0.coords t) md) = modOf md ⟨(sample t).val, (sample t).isLt.trans (by decide)⟩ := by
  funext d
  refine Attn.window_at md _ _ _ _ _ fun a => ?_
  refine Eq.trans ?_ (congrArg (fun y => y + _) (congrFun (off1_eq (grid0.coords t)) a).symm)
  fin_cases a <;> simp [ix2, sample]

/-- One element of a block a grid point stores. -/
theorem block_at (t : Fin cfg0.N) (r : Fin 256) (n : Fin 1024) :
    outsAt0 m c t (ix3 0 r n) = blockArray (V m c main_arg0) (V m c main_arg1) (V m c main_arg2) (V m c main_arg3) (V m c main_arg4)
      (V m c main_arg5) (V m c main_arg6) (ix3 (sample t) (token t r) n) := by
  obtain ⟨e1, e2, e3, e4, e5, e6⟩ := whole_blocks m c t
  unfold outsAt0
  rw [out_eq, e1, e2, e3, e4, e5, e6]
  refine (stored_at ..).trans ?_
  rw [loadedRow_at t, show tokenOf (iblk m c 0 t) r = _ from funext (tokens_at m c t r)]
  rfl

/-- The array after the run. -/
theorem final : (dats m 0 c).arrAt 7 cfg0.N = blockArray (V m c main_arg0) (V m c main_arg1) (V m c main_arg2) (V m c main_arg3)
    (V m c main_arg4) (V m c main_arg5) (V m c main_arg6) := by
  refine (dats m 0 c).arrAt_eq_of_covers 7 _ (by decide +kernel) fun t hf y => ?_
  obtain ⟨a, r, n, rfl⟩ : ∃ (a : Fin 1) (r : Fin 256) (n : Fin 1024), y = ix3 a r n := ⟨y 0, y 1, y 2, eq_ix3 y⟩
  obtain rfl : a = 0 := Subsingleton.elim _ _
  refine Eq.trans (b := outsAt0 m c t (ix3 0 r n)) ?_ ?_
  · blk_simp; rw [after0_7]
  · rw [block_at]
    have e : (win0_7.blk t).view.emb (ix3 0 r n) = (ix3 (sample t) (token t r) n : S2x8192x1024.Idx) := by
      blk_ext [idx7]
      all_goals simp [ix3, sample, token]
    exact (congrArg (blockArray (V m c main_arg0) (V m c main_arg1) (V m c main_arg2) (V m c main_arg3) (V m c main_arg4)
      (V m c main_arg5) (V m c main_arg6)) e).symm

end Cert.Proof.Ffn.Last

end
-- ==== Proof.FfnLastRef.lean ====
/-
  The last layer's SwiGLU reference read at a token, over the extended reals: the token's SwiGLU block, normed once more.
-/
module

public import proofs.«01_k».proof.Proof.Gen.Reference3Ideal.Read
public import proofs.«01_k».proof.Proof.FfnLastArray
public import Idealize.ShloMosaic.Lib.Pointwise

@[expose] public section

set_option maxRecDepth 16384

noncomputable section

namespace Cert.Proof.Ffn.Last

open Cert.Reference3Ideal Cert.Reference3Ideal.Read
open Idealize.ShloMosaic

variable (x : Vec Ideal S2x8192x1024 .f32) (md : Vec Ideal S8x6144 .f32) (g : Vec Ideal S1x1024 .f32)
  (w1 w3 : Vec Ideal S1024x2816 .bf16) (w2 : Vec Ideal S2816x1024 .bf16) (fg : Vec Ideal S1x1024 .f32) (b : Fin 2) (R : Fin 8192)

/-- A token of the array. -/
abbrev latent (d : Fin 1024) : EReal := x (ix3 b R d)
/-- The modulation row of a sample. -/
abbrev rowOfSample : Fin 6144 → EReal := modOf md ⟨b.val, b.isLt.trans (by decide)⟩

/-- The reference's modulated tokens. -/
theorem ref_modulated (d : Fin 1024) :
    val_main_v30 x md g (ix3 b R d) = modulated (rowOfSample md b) (latent x b R) (rowOf g) d := by
  pointwise [val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_v12, val_main_v10, val_main_v9, val_main_v5, val_main_v4, val_main_v3, val_main_cst, val_main_cst_0, val_main_cst_1,
    val_main_cst_2]
  rfl

/-- The reference's first product. -/
theorem ref_first (f : Fin 2816) :
    val_main_v31 x md g w1 (ix3 b R f) = times (modulated (rowOfSample md b) (latent x b R) (rowOf g)) (weight w1) f := by
  pointwise [val_main_v31, val_main_v0]
  simp only [ref_modulated]
  rfl

/-- The reference's second product. -/
theorem ref_second (f : Fin 2816) :
    val_main_v33 x md g w3 (ix3 b R f) = times (modulated (rowOfSample md b) (latent x b R) (rowOf g)) (weight w3) f := by
  pointwise [val_main_v33, val_main_v1]
  simp only [ref_modulated]
  rfl

/-- The reference's SwiGLU block of a token. -/
theorem ref_block (n : Fin 1024) : val_main_v38 x md g w1 w3 w2 (ix3 b R n)
    = block (rowOfSample md b) (rowOf g) (weight w1) (weight w3) (weight w2) (latent x b R) n := by
  pointwise [val_main_v38, val_main_v37, val_main_v36, val_main_v35, val_main_v34, val_main_v32, val_main_call0_v5, val_main_call0_v4,
    val_main_call0_v3, val_main_call0_v2, val_main_call0_v1, val_main_call0_v0, val_main_call0_cst, val_main_call0_cst_0, val_main_v11,
    val_main_v4, val_main_v3, val_main_v2]
  simp only [ref_first, ref_second]
  rfl

/-- The reference's result array. -/
theorem ref_array : val_main_v52 x md g w1 w3 w2 fg = blockArray x md g w1 w3 w2 fg := by
  funext y
  obtain ⟨b, R, n, rfl⟩ : ∃ (b : Fin 2) (R : Fin 8192) (n : Fin 1024), y = ix3 b R n := ⟨y 0, y 1, y 2, eq_ix3 y⟩
  pointwise [val_main_v52, val_main_v51, val_main_v50, val_main_v49, val_main_v48, val_main_v47, val_main_v46, val_main_v45, val_main_v44,
    val_main_v43, val_main_v42, val_main_v41, val_main_v40, val_main_v39, val_main_cst_3, val_main_cst_4, val_main_cst_5]
  simp only [ref_block]
  rfl

end Cert.Proof.Ffn.Last

end
-- ==== Proof.FfnRef.lean ====
/-
  The SwiGLU reference read at a token, over the extended reals: the token's SwiGLU block, the context tokens modulated by the
  third row and the others by their sample's.
-/
module

public import proofs.«01_k».proof.Proof.Gen.Reference2Ideal.Read
public import proofs.«01_k».proof.Proof.FfnLastRef

@[expose] public section

set_option maxRecDepth 16384

noncomputable section

namespace Cert.Proof.Ffn

open Cert.Reference2Ideal Cert.Reference2Ideal.Read
open Idealize.ShloMosaic

variable (x : Vec Ideal S2x8448x1024 .f32) (md : Vec Ideal S8x6144 .f32) (g : Vec Ideal S1x1024 .f32)
  (w1 w3 : Vec Ideal S1024x2816 .bf16) (w2 : Vec Ideal S2816x1024 .bf16) (b : Fin 2) (R : Fin 256)

/-- A context token of the array. -/
abbrev context (d : Fin 1024) : EReal := x (ix3 b ⟨R.val, by omega⟩ d)

/-- The reference's modulated context tokens. -/
theorem ref_modulated (d : Fin 1024) :
    val_main_v32 x md g (ix3 b R d) = modulated (modOf md 2) (context x b R) (rowOf g) d := by
  pointwise [val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_v15,
    val_main_v14, val_main_v12, val_main_v11, val_main_v7, val_main_v6, val_main_v5, val_main_v4, val_main_v3, val_main_cst,
    val_main_cst_0, val_main_cst_1, val_main_cst_2]
  rfl

/-- The reference's first product of the context tokens. -/
theorem ref_first (f : Fin 2816) :
    val_main_v33 x md g w1 (ix3 b R f) = times (modulated (modOf md 2) (context x b R) (rowOf g)) (weight w1) f := by
  pointwise [val_main_v33, val_main_v0]
  simp only [ref_modulated]
  rfl

/-- The reference's second product of the context tokens. -/
theorem ref_second (f : Fin 2816) :
    val_main_v35 x md g w3 (ix3 b R f) = times (modulated (modOf md 2) (context x b R) (rowOf g)) (weight w3) f := by
  pointwise [val_main_v35, val_main_v1]
  simp only [ref_modulated]
  rfl

/-- The reference's SwiGLU block of a context token. -/
theorem ref_context (n : Fin 1024) : val_main_v40 x md g w1 w3 w2 (ix3 b R n)
    = block (modOf md 2) (rowOf g) (weight w1) (weight w3) (weight w2) (context x b R) n := by
  pointwise [val_main_v40, val_main_v39, val_main_v38, val_main_v37, val_main_v36, val_main_v34, val_main_call0_v5, val_main_call0_v4,
    val_main_call0_v3, val_main_call0_v2, val_main_call0_v1, val_main_call0_v0, val_main_call0_cst, val_main_call0_cst_0, val_main_v13,
    val_main_v6, val_main_v5, val_main_v4, val_main_v3, val_main_v2]
  simp only [ref_first, ref_second]
  rfl

/-- The other tokens go through the last layer's reference up to its final norm. -/
theorem ref_latent : val_main_v77 x md g w1 w3 w2 = Cert.Reference3Ideal.Read.val_main_v38 (val_main_v41 x) md g w1 w3 w2 := rfl

/-- A token after the context, in the slice the reference cuts out. -/
theorem slice_at (L : Fin 8192) : Last.latent (val_main_v41 x) b L = fun d => x (ix3 b ⟨256 + L.val, by omega⟩ d) := by
  funext d
  pointwise [val_main_v41]

/-- The reference's result array. -/
theorem ref_array : val_main_v78 x md g w1 w3 w2 = blockArray x md g w1 w3 w2 := by
  funext y
  obtain ⟨b, R, n, rfl⟩ : ∃ (b : Fin 2) (R : Fin 8448) (n : Fin 1024), y = ix3 b R n := ⟨y 0, y 1, y 2, eq_ix3 y⟩
  pointwise [val_main_v78]
  show _ = block (modOf md (modRow b R)) _ _ _ _ (fun d => x (ix3 b R d)) n
  unfold modRow
  split
  · exact ref_context ..
  · rename_i h
    rw [ref_latent, Last.ref_block, slice_at]
    refine congrArg (fun u => block _ _ _ _ _ u n) (funext fun d => congrArg (fun L => x (ix3 b L d)) (Fin.ext ?_))
    exact Nat.add_sub_cancel' (not_lt.mp h)

end Cert.Proof.Ffn

end
-- ==== Proof.FfnAlgebraic.lean ====
/-
  The two SwiGLU calls: their programs' frames, and each kernel's array equal to its reference's, over the extended reals.
-/
module

public import proofs.«01_k».proof.Defs
public import proofs.«01_k».proof.Proof.Gen.Kernel2.Frame
public import proofs.«01_k».proof.Proof.Gen.Kernel3.Frame
public import proofs.«01_k».proof.Proof.Gen.Reference2Ideal.Run
public import proofs.«01_k».proof.Proof.Gen.Reference3Ideal.Run
public import proofs.«01_k».proof.Proof.Gen.Pre_packed_and_finite
public import proofs.«01_k».proof.Proof.FfnRef

@[expose] public section

set_option maxRecDepth 16384

noncomputable section

namespace Cert.Proof.Ffn

open Idealize.ShloMosaic

/-- The kernel's frame at the machine's own numbers. -/
theorem kernel : Cert.quiescent_Kernel2 := fun m ρ _ => Cert.Kernel2.Gen.frame m ρ

/-- The idealized kernel's frame. -/
theorem kernelIdeal : Cert.quiescent_Kernel2Ideal := fun m ρ _ => Cert.Kernel2Ideal.Gen.frame m ρ

/-- The reference's frame: it is a program of host operations and has no semaphore. -/
theorem reference : Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run (F := Ideal) m ρ)

/-- What both leave on a device: the SwiGLU blocks of its own arguments. -/
def shared (m : (ℓ : Loc Cert.Kernel2Ideal.nD Cert.Kernel2Ideal.τ Cert.Kernel2Ideal.sig) → Buf (Elt Ideal) ℓ) (c : Dev Cert.Kernel2Ideal.nD) :
    Buf (Elt Ideal) ((c.tc : Thread Cert.Kernel2Ideal.nD Cert.Kernel2Ideal.τ).loc Cert.Kernel2Ideal.main_v0) :=
  blockArray (Cert.Kernel2Ideal.Gen.V m c Cert.Kernel2Ideal.main_arg0) (Cert.Kernel2Ideal.Gen.V m c Cert.Kernel2Ideal.main_arg1)
    (Cert.Kernel2Ideal.Gen.V m c Cert.Kernel2Ideal.main_arg2) (Cert.Kernel2Ideal.Gen.V m c Cert.Kernel2Ideal.main_arg3)
    (Cert.Kernel2Ideal.Gen.V m c Cert.Kernel2Ideal.main_arg4) (Cert.Kernel2Ideal.Gen.V m c Cert.Kernel2Ideal.main_arg5)

/-- The kernel's result is the reference's. -/
theorem algebraic : Cert.algebraic_Kernel2Ideal_Reference2Ideal := by
  intro m ρ m' ρ' _ hagree
  refine ⟨shared m, ?_, ?_⟩
  · exact (θ_run Cert.Kernel2Ideal.defs _ _).mono (fun r h c => ⟨(h c).1.trans (final m c), (h c).2⟩)
      (Cert.Kernel2Ideal.Value.run_blocks (F := Ideal) m ρ)
  · refine (θ_run Cert.Reference2Ideal.defs _ _).mono (fun r h c => ⟨(h c).1.trans ?_, (h c).2⟩) (Cert.Reference2Ideal.Value.run (F := Ideal) m' ρ')
    obtain ⟨e0, e1, e2, e3, e4, e5, -⟩ := hagree c
    rw [Cert.Reference2Ideal.Read.val_main_v78_eq, e0, e1, e2, e3, e4, e5]
    exact ref_array ..

end Cert.Proof.Ffn

namespace Cert.Proof.Ffn.Last

open Idealize.ShloMosaic

/-- The last layer's kernel's frame at the machine's own numbers. -/
theorem kernel : Cert.quiescent_Kernel3 := fun m ρ _ => Cert.Kernel3.Gen.frame m ρ

/-- The last layer's idealized kernel's frame. -/
theorem kernelIdeal : Cert.quiescent_Kernel3Ideal := fun m ρ _ => Cert.Kernel3Ideal.Gen.frame m ρ

/-- The last layer's reference's frame: it is a program of host operations and has no semaphore. -/
theorem reference : Cert.quiescent_Reference3Ideal := by
  intro m ρ _
  exact (θ_run Cert.Reference3Ideal.defs _ _).mono (fun r h => ⟨fun c => (h c).2, sem_eq_zero_of_no_sems (by decide) r.2⟩)
    (Cert.Reference3Ideal.Value.run (F := Ideal) m ρ)

/-- What both leave on a device: the normed SwiGLU blocks of its own arguments. -/
def shared (m : (ℓ : Loc Cert.Kernel3Ideal.nD Cert.Kernel3Ideal.τ Cert.Kernel3Ideal.sig) → Buf (Elt Ideal) ℓ) (c : Dev Cert.Kernel3Ideal.nD) :
    Buf (Elt Ideal) ((c.tc : Thread Cert.Kernel3Ideal.nD Cert.Kernel3Ideal.τ).loc Cert.Kernel3Ideal.main_v0) :=
  blockArray (Cert.Kernel3Ideal.Gen.V m c Cert.Kernel3Ideal.main_arg0) (Cert.Kernel3Ideal.Gen.V m c Cert.Kernel3Ideal.main_arg1)
    (Cert.Kernel3Ideal.Gen.V m c Cert.Kernel3Ideal.main_arg2) (Cert.Kernel3Ideal.Gen.V m c Cert.Kernel3Ideal.main_arg3)
    (Cert.Kernel3Ideal.Gen.V m c Cert.Kernel3Ideal.main_arg4) (Cert.Kernel3Ideal.Gen.V m c Cert.Kernel3Ideal.main_arg5)
    (Cert.Kernel3Ideal.Gen.V m c Cert.Kernel3Ideal.main_arg6)

/-- The last layer's kernel's result is its reference's. -/
theorem algebraic : Cert.algebraic_Kernel3Ideal_Reference3Ideal := by
  intro m ρ m' ρ' _ hagree
  refine ⟨shared m, ?_, ?_⟩
  · exact (θ_run Cert.Kernel3Ideal.defs _ _).mono (fun r h c => ⟨(h c).1.trans (final m c), (h c).2⟩)
      (Cert.Kernel3Ideal.Value.run_blocks (F := Ideal) m ρ)
  · refine (θ_run Cert.Reference3Ideal.defs _ _).mono (fun r h c => ⟨(h c).1.trans ?_, (h c).2⟩) (Cert.Reference3Ideal.Value.run (F := Ideal) m' ρ')
    obtain ⟨e0, e1, e2, e3, e4, e5, e6⟩ := hagree c
    rw [Cert.Reference3Ideal.Read.val_main_v52_eq, e0, e1, e2, e3, e4, e5, e6]
    exact ref_array ..

end Cert.Proof.Ffn.Last

end
-- ==== Proof.OutRow.lean ====
/-
  The output projection of one token over the extended reals: the root-mean-square norm of every head of 64 lanes, the gate of the
  linear attention, the projection, and the gated sum added to the token. A group of 128 lanes takes the mean squares of its
  two heads by a product with the matrix that says which lanes share a head.
-/
module

public import proofs.«01_k».proof.Proof.FfnRow

@[expose] public section

noncomputable section

namespace Cert.Proof.Out

open Idealize.ShloMosaic
open Cert.Proof.Ffn (times silu)

/-- Lane `d` of the head that lane `c` lies in. -/
def headLane {W : ℕ} (hW : W % 64 = 0) (c : Fin W) (d : Fin 64) : Fin W := ⟨c.val / 64 * 64 + d.val, by omega⟩

/-- The mean square of the head that a lane lies in. -/
def meanSquare {W : ℕ} (hW : W % 64 = 0) (x : Fin W → EReal) (c : Fin W) : EReal :=
  Ideal.div (∑ d, x (headLane hW c d) * x (headLane hW c d)) (Ideal.ofBits .f32 0x42800000#32)

/-- A row with every head normed. -/
def headNormed {W : ℕ} (hW : W % 64 = 0) (x g : Fin W → EReal) (c : Fin W) : EReal :=
  x c * Ideal.rsqrt (meanSquare hW x c + Ideal.ofBits .f32 0x358637BD#32) * g c

/-- A choice of two values that are both `c` is `c`. -/
theorem choice_eq {p : Prop} [Decidable p] {a : p → EReal} {b : ¬ p → EReal} {c : EReal} (ha : ∀ h, a h = c) (hb : ∀ h, b h = c) :
    dite p a b = c := by by_cases h : p <;> simp [h, ha, hb]

/-- A normed lane, by its head's mean square. -/
theorem headNormed_of {W : ℕ} (hW : W % 64 = 0) (x g : Fin W → EReal) (c : Fin W) (u : EReal) (hu : u = meanSquare hW x c) :
    x c * Ideal.rsqrt (u + Ideal.ofBits .f32 0x358637BD#32) * g c = headNormed hW x g c := by rw [hu]; rfl

/-- The row that is projected: the attention's lanes, the convolution's, and the gated lanes of the linear attention. -/
def mixed (a : Fin 512 → EReal) (y l r : Fin 256 → EReal) (g : Fin 1024 → EReal) (c : Fin 1024) : EReal :=
  if h : c.val < 512 then headNormed rfl a (fun e => g ⟨e.val, by omega⟩) ⟨c.val, h⟩
  else if h' : c.val < 768 then headNormed rfl y (fun e => g ⟨512 + e.val, by omega⟩) ⟨c.val - 512, by omega⟩
  else headNormed rfl l (fun e => g ⟨768 + e.val, by omega⟩) ⟨c.val - 768, by omega⟩ * silu (r ⟨c.val - 768, by omega⟩)

/-- The projected row, times the gate, added to the token. -/
def projected (md : Fin 6144 → EReal) (u : Fin 1024 → EReal) (w : Fin 1024 → Fin 1024 → EReal) (h : Fin 1024 → EReal) (n : Fin 1024) : EReal :=
  h n + md ⟨2048 + n.val, by omega⟩ * times u w n

/-- The mean squares of a group of 128 lanes as the kernel takes them: a number is its high part plus the rest, which is itself plus nothing
    over the extended reals when it is real. -/
def spread (s : Fin 128 → EReal) (gm : Fin 128 → Fin 128 → EReal) (j : Fin 128) : EReal :=
  ((∑ l, s l * s l * gm l j) + ∑ l, (s l * s l - s l * s l) * gm l j) * Ideal.ofBits .f32 0x3C800000#32

/-- The matrix that says which lanes share a head. -/
def SameHead (gm : Fin 128 → Fin 128 → EReal) : Prop := ∀ l j, gm l j = if l.val / 64 = j.val / 64 then 1 else 0

/-- A row of real numbers. -/
def RealRow {W : ℕ} (x : Fin W → EReal) : Prop := ∀ c, x c = ((x c).toReal : EReal)

/-- Sixty-four. -/
theorem sixtyFour : Ideal.ofBits .f32 0x42800000#32 = ((64 : ℝ) : EReal) := by
  norm_num [Ideal.ofBits, Ideal.ieee, BitVec.extractLsb', Nat.shiftRight_eq_div_pow]

/-- A sixty-fourth. -/
theorem sixtyFourth : Ideal.ofBits .f32 0x3C800000#32 = (((64 : ℝ)⁻¹ : ℝ) : EReal) := by
  norm_num [Ideal.ofBits, Ideal.ieee, BitVec.extractLsb', Nat.shiftRight_eq_div_pow]

/-- Division by sixty-four. -/
theorem div_sixtyFour (a : EReal) : Ideal.div a (Ideal.ofBits .f32 0x42800000#32) = a * Ideal.ofBits .f32 0x3C800000#32 := by
  rw [sixtyFour, sixtyFourth, Ideal.div, if_neg (by norm_num), EReal.coe_inv]

/-- A sum over the lanes that share a head. -/
theorem sum_head (f : Fin 128 → EReal) (j : Fin 128) :
    (∑ l, f l * (if l.val / 64 = j.val / 64 then 1 else 0)) = ∑ d, f (headLane rfl j d) := by
  simp only [mul_ite, mul_one, mul_zero]
  rw [← Finset.sum_filter]
  refine (Finset.sum_nbij (headLane rfl j) (fun d _ => ?_) (fun d _ e _ h => ?_) (fun l hl => ?_) fun _ _ => rfl).symm
  · rw [Finset.mem_filter]
    refine ⟨Finset.mem_univ _, ?_⟩
    simp only [headLane]; omega
  · have := congrArg Fin.val h
    simp only [headLane] at this
    exact Fin.ext (by omega)
  · have h := (Finset.mem_filter.mp hl).2
    refine ⟨⟨l.val % 64, by omega⟩, Finset.mem_coe.mpr (Finset.mem_univ _), Fin.ext ?_⟩
    simp only [headLane]; omega

/-- The kernel's mean squares of real lanes are the heads' mean squares. -/
theorem spread_eq (s : Fin 128 → EReal) (gm : Fin 128 → Fin 128 → EReal) (hs : RealRow s) (hg : SameHead gm) (j : Fin 128) :
    spread s gm j = meanSquare rfl s j := by
  have hlo : ∀ l, s l * s l - s l * s l = 0 := fun l => by
    rw [hs l, ← EReal.coe_mul, ← EReal.coe_sub, sub_self, EReal.coe_zero]
  unfold spread meanSquare
  simp only [hlo, zero_mul, Finset.sum_const_zero, add_zero, hg _ j]
  rw [div_sixtyFour, sum_head (fun l => s l * s l)]

/-- The mean square of a lane is that of its place in the group of 128 it lies in. -/
theorem meanSquare_group {W : ℕ} (hW : W % 64 = 0) (x : Fin W → EReal) (s : Fin 128 → EReal) (o : ℕ) (ho : o % 64 = 0)
    (c : Fin W) (j : Fin 128) (hj : c.val = o + j.val) (hs : ∀ (l : Fin 128) (h : o + l.val < W), s l = x ⟨o + l.val, h⟩) :
    meanSquare rfl s j = meanSquare hW x c := by
  unfold meanSquare
  refine congrArg (fun a => Ideal.div a _) (Finset.sum_congr rfl fun d _ => ?_)
  have e : s (headLane rfl j d) = x (headLane hW c d) := by
    have hv : o + (headLane (W := 128) rfl j d).val = (headLane hW c d).val := by simp only [headLane]; omega
    exact (hs _ (hv ▸ (headLane hW c d).isLt)).trans (congrArg x (Fin.ext hv))
  rw [e]

/-- The kernel's mean squares of a group of a real row's lanes are the mean squares of the heads they lie in. -/
theorem spread_group {W : ℕ} (hW : W % 64 = 0) (x : Fin W → EReal) (hx : RealRow x) (gm : Fin 128 → Fin 128 → EReal) (hg : SameHead gm)
    (o : ℕ) (ho : o % 64 = 0) (s : Fin 128 → EReal) (c : Fin W) (j : Fin 128) (hj : c.val = o + j.val)
    (hs : ∀ l : Fin 128, ∃ h : o + l.val < W, s l = x ⟨o + l.val, h⟩) : spread s gm j = meanSquare hW x c := by
  rw [spread_eq s gm (fun l => by obtain ⟨h, e⟩ := hs l; rw [e]; exact hx _) hg]
  exact meanSquare_group hW x s o ho c j hj fun l h => (hs l).2

end Cert.Proof.Out

end
-- ==== Proof.OutBody.lean ====
/-
  One block of tokens that the output projection stores, over the extended reals: the projection of each of its tokens.
-/
module

public import proofs.«01_k».proof.Proof.Gen.Kernel4Ideal.Skeleton
public import proofs.«01_k».proof.Proof.OutRow
public import proofs.«01_k».proof.Proof.FfnBody
public import Idealize.ShloMosaic.Lib.Pointwise

@[expose] public section

set_option maxRecDepth 16384

noncomputable section

namespace Cert.Proof.Out

open Cert.Kernel4Ideal Cert.Kernel4Ideal.Gen
open Idealize.ShloMosaic
open Cert.Proof.Ffn (rowOf weight times silu tokenOf)

/-- Row `r` of a block of mixer lanes. -/
abbrev laneRow {n : ℕ} (x : Vec Ideal ⟨3, ![1, 256, n]⟩ .f32) (r : Fin 256) : Fin n → EReal := fun d => x (ix3 0 r d)

section

variable (md : Vec Ideal S1x6144 .f32) (h : Vec Ideal S1x256x1024 .f32) (a : Vec Ideal S1x256x512 .f32)
  (y f b q : Vec Ideal S1x256x256 .f32) (g : Vec Ideal S1x1024 .f32) (gm : Vec Ideal S128x128 .bf16) (w : Vec Ideal S1024x1024 .bf16)
  (r : Fin 256)

/-- The first group of the attention's mean squares. -/
theorem pay5_at (j : Fin 128) : k0_pay5 gm a (ix2 r j) = spread (fun l => laneRow a r ⟨l.val, by omega⟩) (weight gm) j := by
  pointwise [k0_pay5, k0_pay3]
  rfl

/-- The second group of the attention's mean squares. -/
theorem pay6_at (j : Fin 128) : k0_pay6 gm a (ix2 r j) = spread (fun l => laneRow a r ⟨128 + l.val, by omega⟩) (weight gm) j := by
  pointwise [k0_pay6, k0_pay3]
  rfl

/-- The first group of the convolution's mean squares. -/
theorem pay14_at (j : Fin 128) : k0_pay14 gm y (ix2 r j) = spread (fun l => laneRow y r ⟨l.val, by omega⟩) (weight gm) j := by
  pointwise [k0_pay14, k0_pay12]
  rfl

/-- The second group of the convolution's mean squares, not yet divided. -/
theorem pay15_at (j : Fin 128) : k0_pay15 gm y (ix2 r j) * Ideal.ofBits .f32 0x3C800000#32
    = spread (fun l => laneRow y r ⟨128 + l.val, by omega⟩) (weight gm) j := by
  pointwise [k0_pay15, k0_pay12]
  rfl

/-- The normed attention lanes of a block, from the arrays read. -/
def attnLanes (a : Vec Ideal S1x256x512 .f32) (g : Vec Ideal S1x1024 .f32) (gm : Vec Ideal S128x128 .bf16) : FVec Ideal S256x512 .f32 :=
  k0_pay11 gm (k0_pay3 a) (k0_pay4 g) (k0_pay5 gm a) (k0_pay6 gm a) (k0_pay9 a) (k0_pay10 gm a)

/-- They are the normed heads. -/
theorem attnLanes_at (ha : RealRow (laneRow a r)) (hg : SameHead (weight gm)) (c : Fin 512) :
    attnLanes a g gm (ix2 r c) = headNormed rfl (laneRow a r) (fun e => rowOf g ⟨e.val, by omega⟩) c := by
  pointwise [attnLanes, k0_pay11, k0_pay3, k0_pay4, k0_pay7, k0_pay8, k0_pay9, k0_pay10]
  simp only [pay5_at, pay6_at]
  refine headNormed_of rfl (laneRow a r) (fun e => rowOf g ⟨e.val, by omega⟩) c _ ?_
  refine choice_eq (fun h1 => ?_) fun h1 => choice_eq (fun h2 => ?_) fun h2 => choice_eq (fun h3 => ?_) fun h3 => ?_
  · exact spread_group rfl _ ha _ hg 0 rfl _ c _ (by simp) fun l => ⟨by omega, congrArg _ (Fin.ext (by simp))⟩
  · exact spread_group rfl _ ha _ hg 128 rfl _ c _ (by simp only; omega) fun l => ⟨by omega, rfl⟩
  · exact spread_group rfl _ ha _ hg 256 rfl (fun l => laneRow a r ⟨256 + l.val, by omega⟩) c _ (by simp only; omega) fun l => ⟨by omega, rfl⟩
  · exact spread_group rfl _ ha _ hg 384 rfl (fun l => laneRow a r ⟨384 + l.val, by omega⟩) c ⟨c.val - 128 - 128 - 128, by omega⟩
      (by simp only; omega) fun l => ⟨by omega, rfl⟩

/-- The normed convolution lanes of a block, from the arrays read. -/
def convLanes (y : Vec Ideal S1x256x256 .f32) (g : Vec Ideal S1x1024 .f32) (gm : Vec Ideal S128x128 .bf16) : FVec Ideal S256x256 .f32 :=
  k0_pay16 (k0_pay12 y) (k0_pay13 g) (k0_pay14 gm y) (k0_pay15 gm y) (Scalar.ofBits .f32 0x3C800000#32)

/-- They are the normed heads. -/
theorem convLanes_at (hy : RealRow (laneRow y r)) (hg : SameHead (weight gm)) (c : Fin 256) :
    convLanes y g gm (ix2 r c) = headNormed rfl (laneRow y r) (fun e => rowOf g ⟨512 + e.val, by omega⟩) c := by
  pointwise [convLanes, k0_pay16, k0_pay12, k0_pay13]
  simp only [pay14_at, pay15_at]
  refine headNormed_of rfl (laneRow y r) (fun e => rowOf g ⟨512 + e.val, by omega⟩) c _ ?_
  refine choice_eq (fun h1 => ?_) fun h1 => ?_
  · exact spread_group rfl _ hy _ hg 0 rfl _ c _ (by simp) fun l => ⟨by omega, congrArg _ (Fin.ext (by simp))⟩
  · exact spread_group rfl _ hy _ hg 128 rfl _ c _ (by simp only; omega) fun l => ⟨by omega, rfl⟩

/-- The two directions of the linear attention added. -/
abbrev sumRow (f b : Vec Ideal S1x256x256 .f32) (r : Fin 256) : Fin 256 → EReal := fun d => f (ix3 0 r d) + b (ix3 0 r d)

/-- The normed linear attention lanes of a block are the normed heads of the two directions' sum. -/
theorem pay17_at (hl : RealRow (sumRow f b r)) (hg : SameHead (weight gm)) (c : Fin 256) :
    k0_pay17 gm g f b (ix2 r c) = headNormed rfl (sumRow f b r) (fun e => rowOf g ⟨768 + e.val, by omega⟩) c := by
  pointwise [k0_pay17]
  refine headNormed_of rfl (sumRow f b r) (fun e => rowOf g ⟨768 + e.val, by omega⟩) c _ ?_
  refine choice_eq (fun h1 => ?_) fun h1 => ?_
  · exact spread_group rfl _ hl _ hg 0 rfl (fun l => sumRow f b r ⟨l.val, by omega⟩) c _ (by simp) fun l => ⟨by omega, congrArg _ (Fin.ext (by simp))⟩
  · exact spread_group rfl _ hl _ hg 128 rfl (fun l => sumRow f b r ⟨128 + l.val, by omega⟩) c ⟨c.val - 128, by omega⟩ (by simp only; omega)
      fun l => ⟨by omega, rfl⟩

/-- The block stored, from the arrays read. -/
def stored (md : Vec Ideal S1x6144 .f32) (h : Vec Ideal S1x256x1024 .f32) (a : Vec Ideal S1x256x512 .f32)
    (y f b q : Vec Ideal S1x256x256 .f32) (g : Vec Ideal S1x1024 .f32) (gm : Vec Ideal S128x128 .bf16) (w : Vec Ideal S1024x1024 .bf16) :
    Vec Ideal S1x256x1024 .f32 :=
  k0_pay1 (k0_pay2 md) (attnLanes a g gm) (convLanes y g gm) (k0_pay17 gm g f b) q h w

/-- The block stored is the projection of each token. -/
theorem stored_at (ha : RealRow (laneRow a r)) (hy : RealRow (laneRow y r)) (hl : RealRow (sumRow f b r)) (hg : SameHead (weight gm))
    (n : Fin 1024) : stored md h a y f b q g gm w (ix3 0 r n)
      = projected (rowOf md) (mixed (laneRow a r) (laneRow y r) (sumRow f b r) (laneRow q r) (rowOf g)) (weight w) (tokenOf h r) n := by
  pointwise [stored, k0_pay1, k0_pay2]
  simp only [attnLanes_at _ _ _ _ ha hg, convLanes_at _ _ _ _ hy hg, pay17_at _ _ _ _ _ hl hg]
  unfold projected times
  refine congrArg (fun u => _ + _ * u) (Finset.sum_congr rfl fun x _ => congrArg (fun u => u * _) ?_)
  unfold mixed silu
  simp only [zero_sub, Nat.sub_sub, Nat.reduceAdd]
  refine dite_congr rfl (fun _ => rfl) fun h1 => ?_
  refine dite_congr (by simp only [eq_iff_iff]; omega) (fun _ => rfl) fun h2 => rfl

end

end Cert.Proof.Out

end
-- ==== Proof.OutLit.lean ====
/-
  The entries of the matrix the output projection is given.
-/
module

public import proofs.«01_k».proof.Kernel4Ideal

@[expose] public section

set_option maxRecDepth 16384

namespace Cert.Proof.Out

open Cert.Kernel4Ideal

/-- The literal's entries: one where two lanes share a head, zero elsewhere. -/
theorem lit_entries : ∀ l j : Fin 128, lit0t (l.val * 128 + j.val) = if l.val / 64 = j.val / 64 then 0x3F80#16 else 0x0000#16 := by
  decide +kernel

end Cert.Proof.Out
-- ==== Proof.OutGmat.lean ====
/-
  The matrix the output projections are given: it says which of 128 lanes share a head of 64.
-/
module

public import proofs.«01_k».proof.Proof.Gen.Kernel4Ideal.Frame.Runs
public import proofs.«01_k».proof.Proof.OutLit
public import proofs.«01_k».proof.Proof.OutRow
public import proofs.«01_k».proof.Proof.FfnBody
public import Idealize.ShloMosaic.Lib.Pointwise

@[expose] public section

set_option maxRecDepth 16384

noncomputable section

namespace Cert.Proof.Out

open Cert.Kernel4Ideal Cert.Kernel4Ideal.Gen
open Idealize.ShloMosaic Idealize.ShloMosaic.TcCoe Idealize.SL.Sem
open Cert.Proof.Ffn (weight)

/-- The matrix of a literal. -/
def headMatrix (lit : Nat → BitVec 16) : Vec Ideal S128x128 .bf16 := fun i => Ideal.ofBits .bf16 (lit (S128x128.rowMajor i).val)

/-- The place of an entry. -/
theorem place (l j : Fin 128) : (S128x128.rowMajor (ix2 l j)).val = l.val * 128 + j.val := by
  rw [Shape.rowMajor_val_two]; rfl

/-- A matrix whose literal has these entries says which lanes share a head. -/
theorem headMatrix_sameHead : SameHead (weight (headMatrix lit0t)) := by
  intro l j
  show Ideal.ofBits .bf16 (lit0t (S128x128.rowMajor (ix2 l j)).val) = _
  rw [place, lit_entries]
  split
  · norm_num [Ideal.ofBits, Ideal.ieee, BitVec.extractLsb', Nat.shiftRight_eq_div_pow]
  · norm_num [Ideal.ofBits, Ideal.ieee, BitVec.extractLsb', Nat.shiftRight_eq_div_pow]

/-- The matrix the kernel is given is the literal's. -/
theorem given (m : (ℓ : Loc nD τ sig) → Buf (Elt Ideal) ℓ) (c : Dev nD) : V m c main_cst = headMatrix lit0t := rfl

end Cert.Proof.Out

end
-- ==== Proof.OutArray.lean ====
/-
  The array the output projection leaves, over the extended reals: the projection of every token, the context tokens gated by
  the third row and the others by their sample's.
-/
module

public import proofs.«01_k».proof.Proof.Gen.Kernel4Ideal.Value
public import proofs.«01_k».proof.Proof.OutBody
public import proofs.«01_k».proof.Proof.OutGmat
public import proofs.«01_k».proof.Proof.FfnArray

@[expose] public section

set_option maxRecDepth 16384

noncomputable section

namespace Cert.Proof.Out

open Cert.Kernel4Ideal Cert.Kernel4Ideal.Gen
open Idealize.ShloMosaic Idealize.ShloMosaic.TcCoe Idealize.SL.Sem
open Idealize.ShloMosaic.Pipeline (Dat)
open Cert.Proof.Ffn (rowOf weight times silu tokenOf modOf modRow zero2 zero3)

/-- The row of a token in an array of lanes. -/
abbrev rowAt {T n : ℕ} (x : Vec Ideal ⟨3, ![2, T, n]⟩ .f32) (b : Fin 2) (R : Fin T) : Fin n → EReal := fun d => x (ix3 b R d)

/-- The rows of a token in two arrays added. -/
abbrev sumAt {T n : ℕ} (x y : Vec Ideal ⟨3, ![2, T, n]⟩ .f32) (b : Fin 2) (R : Fin T) : Fin n → EReal := fun d => x (ix3 b R d) + y (ix3 b R d)

/-- The projection of one token, from the arrays. -/
def tokenOut (x : Vec Ideal S2x8448x1024 .f32) (md : Vec Ideal S8x6144 .f32) (a : Vec Ideal S2x8448x512 .f32)
    (y f l q : Vec Ideal S2x8448x256 .f32) (g : Vec Ideal S1x1024 .f32) (w : Vec Ideal S1024x1024 .bf16) (b : Fin 2) (R : Fin 8448) :
    Fin 1024 → EReal :=
  projected (modOf md (modRow b R)) (mixed (rowAt a b R) (rowAt y b R) (sumAt f l b R) (rowAt q b R) (rowOf g)) (weight w) (rowAt x b R)

/-- The array of projections. -/
def projArray (x : Vec Ideal S2x8448x1024 .f32) (md : Vec Ideal S8x6144 .f32) (a : Vec Ideal S2x8448x512 .f32)
    (y f l q : Vec Ideal S2x8448x256 .f32) (g : Vec Ideal S1x1024 .f32) (w : Vec Ideal S1024x1024 .bf16) : Vec Ideal S2x8448x1024 .f32 :=
  fun i => tokenOut x md a y f l q g w (i 0) (i 1) (i 2)

/-- What the mixers leave for a token is real. -/
def RealMix (a : Vec Ideal S2x8448x512 .f32) (y f l : Vec Ideal S2x8448x256 .f32) (b : Fin 2) (R : Fin 8448) : Prop :=
  RealRow (rowAt a b R) ∧ RealRow (rowAt y b R) ∧ RealRow (sumAt f l b R)

/-- The modulation row a grid point loads. -/
def loadedRow (i : grid0.Coords) (md : Vec Ideal S8x6144 .f32) : Vec Ideal S1x6144 .f32 :=
  View.ld md (Rect.unit (s := S8x6144) (k0_off1 i) S1x6144.size (k0_off1_inb i))

/-- It is the one the SwiGLU kernel loads. -/
theorem loadedRow_same : loadedRow = Ffn.loadedRow := rfl

/-- The block a grid point leaves is the block stored from the arrays it reads. -/
theorem out_eq (c : Dev nD) (i : grid0.Coords) (a2 : Memref sig .tc .vmem S1x256x1024 .f32) (h2 : a2.IsWhole)
    (a3 : Memref sig .tc .vmem S8x6144 .f32) (h3 : a3.IsWhole) (a4 : Memref sig .tc .vmem S1x256x512 .f32) (h4 : a4.IsWhole)
    (a5 a6 a7 a8 : Memref sig .tc .vmem S1x256x256 .f32) (h5 : a5.IsWhole) (h6 : a6.IsWhole) (h7 : a7.IsWhole) (h8 : a8.IsWhole)
    (a9 : Memref sig .tc .vmem S1x1024 .f32) (h9 : a9.IsWhole) (a10 : Memref sig .tc .vmem S128x128 .bf16) (h10 : a10.IsWhole)
    (a11 : Memref sig .tc .vmem S1024x1024 .bf16) (h11 : a11.IsWhole) (a12 : Memref sig .tc .vmem S1x256x1024 .f32) (h12 : a12.IsWhole)
    (x : Vec Ideal S1x256x1024 .f32) (md : Vec Ideal S8x6144 .f32) (a : Vec Ideal S1x256x512 .f32) (y f l q : Vec Ideal S1x256x256 .f32)
    (g : Vec Ideal S1x1024 .f32) (gm : Vec Ideal S128x128 .bf16) (w : Vec Ideal S1024x1024 .bf16) :
    out0_A_10 c i a2 h2 a3 h3 a4 h4 a5 h5 a6 h6 a7 h7 a8 h8 a9 h9 a10 h10 a11 h11 a12 h12 x md a y f l q g gm w
      = stored (loadedRow i md) x a y f l q g gm w := by
  unfold out0_A_10
  rw [View.read_writes_junk_eq_canon]
  unfold kernelRun0_A
  refine (View.canon_unit_zero zero3 _ _).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
    kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15]
  simp only [View.readAt_eq_ld]
  rw [h2.read_unread, h3.read_unread, h4.read_unread, h5.read_unread, h6.read_unread, h7.read_unread, h8.read_unread, h9.read_unread,
    h10.read_unread, h11.read_unread]
  rw [View.ld_unit_zero (S := S1x256x1024) zero3, View.ld_unit_zero (S := S1x1024) zero2, View.ld_unit_zero (S := S1x256x512) zero3,
    View.ld_unit_zero (S := S128x128) zero2, View.ld_unit_zero (S := S1024x1024) zero2]
  simp only [View.ld_unit_zero (S := S1x256x256) zero3]
  rfl

theorem idx_tokens : ∀ t : Fin cfg0.N, win0_0.index t = ![(grid0.coords t 0).val, (grid0.coords t 1).val, 0]
    ∧ win0_2.index t = ![(grid0.coords t 0).val, (grid0.coords t 1).val, 0] ∧ win0_3.index t = ![(grid0.coords t 0).val, (grid0.coords t 1).val, 0]
    ∧ win0_4.index t = ![(grid0.coords t 0).val, (grid0.coords t 1).val, 0] ∧ win0_5.index t = ![(grid0.coords t 0).val, (grid0.coords t 1).val, 0]
    ∧ win0_6.index t = ![(grid0.coords t 0).val, (grid0.coords t 1).val, 0] ∧ win0_10.index t = ![(grid0.coords t 0).val, (grid0.coords t 1).val, 0] :=
  (by decide +kernel : ∀ t : Fin grid0.N, _)

theorem idx_whole : ∀ t : Fin cfg0.N, win0_1.index t = ![0, 0] ∧ win0_7.index t = ![0, 0] ∧ win0_8.index t = ![0, 0]
    ∧ win0_9.index t = ![0, 0] := (by decide +kernel : ∀ t : Fin grid0.N, _)

variable (m : (ℓ : Loc nD τ sig) → Buf (Elt Ideal) ℓ) (c : Dev nD)

/-- The sample of a grid point. -/
def sample (t : Fin cfg0.N) : Fin 2 := grid0.coords t 0
/-- The token of a row of a grid point's block. -/
def token (t : Fin cfg0.N) (r : Fin 256) : Fin 8448 :=
  ⟨(grid0.coords t 1).val * 256 + r.val, by have : (grid0.coords t 1).val < 33 := (grid0.coords t 1).isLt; omega⟩

/-- The blocks of tokens are read from their sample and place. -/
theorem tokens_at (t : Fin cfg0.N) (r : Fin 256) :
    tokenOf (iblk m c 0 t) r = rowAt (V m c main_arg0) (sample t) (token t r)
    ∧ laneRow (iblk m c 2 t) r = rowAt (V m c main_arg2) (sample t) (token t r)
    ∧ laneRow (iblk m c 3 t) r = rowAt (V m c main_arg3) (sample t) (token t r)
    ∧ laneRow (iblk m c 4 t) r = rowAt (V m c main_arg4) (sample t) (token t r)
    ∧ laneRow (iblk m c 5 t) r = rowAt (V m c main_arg5) (sample t) (token t r)
    ∧ laneRow (iblk m c 6 t) r = rowAt (V m c main_arg6) (sample t) (token t r) := by
  obtain ⟨e0, e2, e3, e4, e5, e6, -⟩ := idx_tokens t
  refine ⟨?_, ?_, ?_, ?_, ?_, ?_⟩ <;> funext d <;> unfold rowAt
  · show iblk m c 0 t (ix3 0 r d) = _
    blk_simp [iblk]
    refine congrArg (V m c main_arg0) ?_
    blk_ext [e0]
    all_goals simp [ix3, sample, token]
  · show iblk m c 2 t (ix3 0 r d) = _
    blk_simp [iblk]
    refine congrArg (V m c main_arg2) ?_
    blk_ext [e2]
    all_goals simp [ix3, sample, token]
  · show iblk m c 3 t (ix3 0 r d) = _
    blk_simp [iblk]
    refine congrArg (V m c main_arg3) ?_
    blk_ext [e3]
    all_goals simp [ix3, sample, token]
  · show iblk m c 4 t (ix3 0 r d) = _
    blk_simp [iblk]
    refine congrArg (V m c main_arg4) ?_
    blk_ext [e4]
    all_goals simp [ix3, sample, token]
  · show iblk m c 5 t (ix3 0 r d) = _
    blk_simp [iblk]
    refine congrArg (V m c main_arg5) ?_
    blk_ext [e5]
    all_goals simp [ix3, sample, token]
  · show iblk m c 6 t (ix3 0 r d) = _
    blk_simp [iblk]
    refine congrArg (V m c main_arg6) ?_
    blk_ext [e6]
    all_goals simp [ix3, sample, token]

/-- The other arrays are read whole. -/
theorem whole_blocks (t : Fin cfg0.N) : iblk m c 1 t = V m c main_arg1 ∧ iblk m c 7 t = V m c main_arg7 ∧ iblk m c 8 t = V m c main_cst
    ∧ iblk m c 9 t = V m c main_arg8 := by
  obtain ⟨e1, e2, e3, e4⟩ := idx_whole t
  refine ⟨?_, ?_, ?_, ?_⟩ <;> funext y <;> blk_simp [iblk]
  · refine congrArg (V m c main_arg1) ?_
    blk_ext [e1]
  · refine congrArg (V m c main_arg7) ?_
    blk_ext [e2]
  · refine congrArg (V m c main_cst) ?_
    blk_ext [e3]
  · refine congrArg (V m c main_arg8) ?_
    blk_ext [e4]

/-- The loaded modulation row is the one of the grid point's tokens. -/
theorem loadedRow_at (t : Fin cfg0.N) (r : Fin 256) (md : Vec Ideal S8x6144 .f32) :
    rowOf (loadedRow (grid0.coords t) md) = modOf md (modRow (sample t) (token t r)) := by
  rw [loadedRow_same]
  exact Ffn.loadedRow_at t r md

/-- The array the arguments of a memory give. -/
def result : Vec Ideal S2x8448x1024 .f32 :=
  projArray (V m c main_arg0) (V m c main_arg1) (V m c main_arg2) (V m c main_arg3) (V m c main_arg4) (V m c main_arg5) (V m c main_arg6)
    (V m c main_arg7) (V m c main_arg8)

/-- What the mixers leave is real, for every token. -/
def RealMixers : Prop := ∀ b R, RealMix (V m c main_arg2) (V m c main_arg3) (V m c main_arg4) (V m c main_arg5) b R

/-- One element of a block a grid point stores. -/
theorem block_at (hr : RealMixers m c) (t : Fin cfg0.N) (r : Fin 256) (n : Fin 1024) :
    outsAt0 m c t (ix3 0 r n) = result m c (ix3 (sample t) (token t r) n) := by
  obtain ⟨e1, e7, e8, e9⟩ := whole_blocks m c t
  obtain ⟨i0, i2, i3, i4, i5, i6⟩ := tokens_at m c t r
  obtain ⟨ra, ry, rl⟩ := hr (sample t) (token t r)
  have is : sumRow (iblk m c 4 t) (iblk m c 5 t) r = sumAt (V m c main_arg4) (V m c main_arg5) (sample t) (token t r) :=
    funext fun d => congrArg₂ (fun u v : EReal => u + v) (congrFun i4 d) (congrFun i5 d)
  unfold outsAt0
  rw [out_eq, e1, e7, e8, e9]
  refine (stored_at _ _ _ _ _ _ _ _ _ _ r (i2 ▸ ra) (i3 ▸ ry) (is ▸ rl) (given m c ▸ headMatrix_sameHead) n).trans ?_
  rw [loadedRow_at t r, i0, i2, i3, i6, is]
  rfl

/-- The array after the run. -/
theorem final (hr : RealMixers m c) : (dats m 0 c).arrAt 10 cfg0.N = result m c := by
  refine (dats m 0 c).arrAt_eq_of_covers 10 _ (by decide +kernel) fun t hf y => ?_
  obtain ⟨a, r, n, rfl⟩ : ∃ (a : Fin 1) (r : Fin 256) (n : Fin 1024), y = ix3 a r n := ⟨y 0, y 1, y 2, eq_ix3 y⟩
  obtain rfl : a = 0 := Subsingleton.elim _ _
  refine Eq.trans (b := outsAt0 m c t (ix3 0 r n)) ?_ ?_
  · blk_simp; rw [after0_10]
  · rw [block_at m c hr]
    have e : (win0_10.blk t).view.emb (ix3 0 r n) = (ix3 (sample t) (token t r) n : S2x8448x1024.Idx) := by
      blk_ext [(idx_tokens t).2.2.2.2.2.2]
      all_goals simp [ix3, sample, token]
    exact (congrArg (result m c) e).symm

end Cert.Proof.Out

end
-- ==== Proof.OutRef.lean ====
/-
  The output projection's reference read at a token, over the extended reals: the token's projection, the context tokens gated by
  the third row and the others by their sample's.
-/
module

public import proofs.«01_k».proof.Proof.Gen.Reference4Ideal.Read
public import proofs.«01_k».proof.Proof.OutArray

@[expose] public section

set_option maxRecDepth 16384

noncomputable section

namespace Cert.Proof.Out

open Cert.Reference4Ideal Cert.Reference4Ideal.Read
open Idealize.ShloMosaic
open Cert.Proof.Ffn (rowOf weight times silu tokenOf modOf modRow)

variable (x : Vec Ideal S2x8448x1024 .f32) (md : Vec Ideal S8x6144 .f32) (a : Vec Ideal S2x8448x512 .f32)
  (y f l q : Vec Ideal S2x8448x256 .f32) (g : Vec Ideal S1x1024 .f32) (w : Vec Ideal S1024x1024 .bf16) (b : Fin 2) (R : Fin 8448)

/-- The reference's normed attention heads. -/
theorem ref_attn (c : Fin 512) :
    val_main_v19 a g (ix3 b R c) = headNormed rfl (rowAt a b R) (fun e => rowOf g ⟨e.val, by omega⟩) c := by
  pointwise [val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v1,
    val_main_cst, val_main_cst_0, val_main_cst_1]
  rfl

/-- The reference's normed convolution heads. -/
theorem ref_conv (c : Fin 256) :
    val_main_v36 y g (ix3 b R c) = headNormed rfl (rowAt y b R) (fun e => rowOf g ⟨512 + e.val, by omega⟩) c := by
  pointwise [val_main_v36, val_main_v35, val_main_v34, val_main_v33, val_main_v32, val_main_v31, val_main_v30, val_main_v29,
    val_main_v28, val_main_v27, val_main_v26, val_main_v25, val_main_v24, val_main_v23, val_main_v22, val_main_v21, val_main_v20,
    val_main_v1, val_main_cst_2, val_main_cst_3, val_main_cst_4]
  rfl

/-- The reference's normed heads of the linear attention. -/
theorem ref_linear (c : Fin 256) :
    val_main_v53 f l g (ix3 b R c) = headNormed rfl (sumAt f l b R) (fun e => rowOf g ⟨768 + e.val, by omega⟩) c := by
  pointwise [val_main_v53, val_main_v52, val_main_v51, val_main_v50, val_main_v49, val_main_v48, val_main_v47, val_main_v46,
    val_main_v45, val_main_v44, val_main_v43, val_main_v42, val_main_v41, val_main_v40, val_main_v39, val_main_v38, val_main_v37,
    val_main_v1, val_main_v0, val_main_cst_5, val_main_cst_6, val_main_cst_7]
  rfl

/-- The gate of the linear attention. -/
theorem ref_silu (c : Fin 256) : val_main_v54 q (ix3 b R c) = silu (q (ix3 b R c)) := by
  pointwise [val_main_v54, val_main_call0_v5, val_main_call0_v4, val_main_call0_v3, val_main_call0_v2, val_main_call0_v1,
    val_main_call0_v0, val_main_call0_cst, val_main_call0_cst_0]
  rfl

/-- The reference's projected rows. -/
theorem ref_times (n : Fin 1024) : val_main_v57 a y f l q g w (ix3 b R n)
    = times (mixed (rowAt a b R) (rowAt y b R) (sumAt f l b R) (rowAt q b R) (rowOf g)) (weight w) n := by
  pointwise [val_main_v57, val_main_v56, val_main_v55, val_main_v2]
  simp only [ref_attn, ref_conv, ref_linear, ref_silu]
  refine Finset.sum_congr rfl fun x _ => congrArg (fun u => u * _) ?_
  unfold mixed
  simp only [Nat.sub_sub, Nat.reduceAdd]
  refine dite_congr rfl (fun _ => rfl) fun h1 => ?_
  refine dite_congr (by simp only [eq_iff_iff]; omega) (fun _ => rfl) fun h2 => rfl

/-- The reference's result array. -/
theorem ref_array : val_main_v85 x md a y f l q g w = projArray x md a y f l q g w := by
  funext i
  obtain ⟨b, R, n, rfl⟩ : ∃ (b : Fin 2) (R : Fin 8448) (n : Fin 1024), i = ix3 b R n := ⟨i 0, i 1, i 2, eq_ix3 i⟩
  pointwise [val_main_v85, val_main_v84, val_main_v83, val_main_v82, val_main_v81, val_main_v80, val_main_v79, val_main_v78,
    val_main_v77, val_main_v76, val_main_v75, val_main_v74, val_main_v73, val_main_v72, val_main_v71, val_main_v70, val_main_v69,
    val_main_v68, val_main_v67, val_main_v66, val_main_v65, val_main_v64, val_main_v63, val_main_v62, val_main_v61, val_main_v60,
    val_main_v59, val_main_v58]
  simp only [ref_times]
  show _ = projected (modOf md (modRow b R)) _ _ (rowAt x b R) n
  unfold modRow
  split
  · rfl
  · rename_i h
    have e : (⟨256 + (R.val - 256), by omega⟩ : Fin 8448) = R := Fin.ext (Nat.add_sub_cancel' (not_lt.mp h))
    simp only [e]
    rfl

end Cert.Proof.Out

end
-- ==== Proof.OutPre.lean ====
/-
  What the precondition says of the mixers' results: they are real numbers.
-/
module

public import proofs.«01_k».proof.Proof.Gen.Pre_finite_mixers
public import proofs.«01_k».proof.Proof.PreReal
public import proofs.«01_k».proof.Proof.OutArray

@[expose] public section

set_option maxRecDepth 16384

noncomputable section

namespace Cert.Proof.Out

open Idealize.ShloMosaic Cert.Pre_finite_mixers Cert.Pre_finite_mixers.Gen
open Cert.Proof.Attn (real_of_abs pos_inf bit_true and_bits)

/-- A row whose two halves are real is real. -/
theorem real_halves (x : Fin 512 → EReal) (h0 : ∀ c : Fin 256, x ⟨c.val, by omega⟩ = ((x ⟨c.val, by omega⟩).toReal : EReal))
    (h1 : ∀ c : Fin 256, x ⟨256 + c.val, by omega⟩ = ((x ⟨256 + c.val, by omega⟩).toReal : EReal)) : RealRow x := by
  intro c
  by_cases h : c.val < 256
  · exact h0 ⟨c.val, h⟩
  · have e : c = ⟨256 + (⟨c.val - 256, by omega⟩ : Fin 256).val, by simp only; omega⟩ := Fin.ext (by simp only; omega)
    rw [e]
    exact h1 ⟨c.val - 256, by omega⟩

variable (x : Vec Ideal S2x8448x1024 .f32) (md : Vec Ideal S8x6144 .f32) (a : Vec Ideal S2x8448x512 .f32)
  (y f l q : Vec Ideal S2x8448x256 .f32) (g : Vec Ideal S1x1024 .f32) (w : Vec Ideal S1024x1024 .bf16)

/-- The precondition at an index. -/
theorem fn_at (b : Fin 2) (R : Fin 8448) (c : Fin 256) (hp : fn (F := Ideal) x md a y f l q g w (ix3 b R c) = 1#1) :
    (a (ix3 b R ⟨c.val, by omega⟩) = ((a (ix3 b R ⟨c.val, by omega⟩)).toReal : EReal)
      ∧ a (ix3 b R ⟨256 + c.val, by omega⟩) = ((a (ix3 b R ⟨256 + c.val, by omega⟩)).toReal : EReal))
    ∧ y (ix3 b R c) = ((y (ix3 b R c)).toReal : EReal)
    ∧ f (ix3 b R c) + l (ix3 b R c) = ((f (ix3 b R c) + l (ix3 b R c)).toReal : EReal) := by
  revert hp
  pointwise [fn]
  intro hp
  have h1 := and_bits _ _ hp
  have h2 := and_bits _ _ h1.1
  have h3 := and_bits _ _ h2.1
  exact ⟨⟨real_of_abs _ (pos_inf ▸ bit_true h3.1), real_of_abs _ (pos_inf ▸ bit_true h3.2)⟩, real_of_abs _ (pos_inf ▸ bit_true h2.2),
    real_of_abs _ (pos_inf ▸ bit_true h1.2)⟩

/-- Under the precondition what the mixers leave is real. -/
theorem real_of_pre (hp : fn (F := Ideal) x md a y f l q g w = fun _ => 1#1) (b : Fin 2) (R : Fin 8448) : RealMix a y f l b R := by
  have h := fun c => fn_at x md a y f l q g w b R c (congrFun hp _)
  exact ⟨real_halves _ (fun c => (h c).1.1) fun c => (h c).1.2, fun c => (h c).2.1, fun c => (h c).2.2⟩

end Cert.Proof.Out

end
-- ==== Proof.OutAlgebraic.lean ====
/-
  The output projection: its programs' frames, and the kernel's array equal to its reference's, over the extended reals.
-/
module

public import proofs.«01_k».proof.Defs
public import proofs.«01_k».proof.Proof.Gen.Kernel4.Frame
public import proofs.«01_k».proof.Proof.Gen.Reference4Ideal.Run
public import proofs.«01_k».proof.Proof.OutRef
public import proofs.«01_k».proof.Proof.OutPre

@[expose] public section

set_option maxRecDepth 16384

noncomputable section

namespace Cert.Proof.Out

open Idealize.ShloMosaic

/-- The kernel's frame at the machine's own numbers. -/
theorem kernel : Cert.quiescent_Kernel4 := fun m ρ _ => Cert.Kernel4.Gen.frame m ρ

/-- The idealized kernel's frame. -/
theorem kernelIdeal : Cert.quiescent_Kernel4Ideal := fun m ρ _ => Cert.Kernel4Ideal.Gen.frame m ρ

/-- The same under the precondition. -/
theorem kernelIdeal_pre : Cert.quiescent_Kernel4Ideal_pre_finite_mixers := fun m ρ _ => Cert.Kernel4Ideal.Gen.frame m ρ

/-- The reference's frame: it is a program of host operations and has no semaphore. -/
theorem reference : Cert.quiescent_Reference4Ideal := by
  intro m ρ _
  exact (θ_run Cert.Reference4Ideal.defs _ _).mono (fun r h => ⟨fun c => (h c).2, sem_eq_zero_of_no_sems (by decide) r.2⟩)
    (Cert.Reference4Ideal.Value.run (F := Ideal) m ρ)

/-- The same under the precondition. -/
theorem reference_pre : Cert.quiescent_Reference4Ideal_pre_finite_mixers := fun m ρ _ => reference m ρ trivial

section

open Cert.Kernel4Ideal Cert.Kernel4Ideal.Gen

variable (m : (ℓ : Loc nD τ sig) → Buf (Elt Ideal) ℓ) (c : Dev nD)

/-- The kernel's arguments are not written before it runs. -/
theorem result_args : result m c = projArray (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) := by
  unfold result
  rw [V_main_arg0, V_main_arg1, V_main_arg2, V_main_arg3, V_main_arg4, V_main_arg5, V_main_arg6, V_main_arg7, V_main_arg8]

/-- The precondition makes what the mixers leave real. -/
theorem realMixers (hp : Cert.Pre_Kernel4Ideal_finite_mixers m) : RealMixers m c := by
  intro b R
  rw [V_main_arg2, V_main_arg3, V_main_arg4, V_main_arg5]
  exact real_of_pre _ _ _ _ _ _ _ _ _ (hp c) b R

end

/-- The kernel's result is its reference's. -/
theorem algebraic : Cert.algebraic_Kernel4Ideal_Reference4Ideal_pre_finite_mixers := by
  intro m ρ m' ρ' hp hagree
  refine ⟨result m, ?_, ?_⟩
  · exact (θ_run Cert.Kernel4Ideal.defs _ _).mono (fun r h c => ⟨(h c).1.trans (final m c (realMixers m c hp)), (h c).2⟩)
      (Cert.Kernel4Ideal.Value.run_blocks (F := Ideal) m ρ)
  · refine (θ_run Cert.Reference4Ideal.defs _ _).mono (fun r h c => ⟨(h c).1.trans ?_, (h c).2⟩) (Cert.Reference4Ideal.Value.run (F := Ideal) m' ρ')
    obtain ⟨e0, e1, e2, e3, e4, e5, e6, e7, e8⟩ := hagree c
    rw [Cert.Reference4Ideal.Read.val_main_v85_eq, e0, e1, e2, e3, e4, e5, e6, e7, e8, result_args]
    exact ref_array ..

end Cert.Proof.Out

end
-- ==== Proof.OutLastLit.lean ====
/-
  The matrix the last layer's output projection is given is the other layers'.
-/
module

public import proofs.«01_k».proof.Kernel4Ideal
public import proofs.«01_k».proof.Kernel5Ideal

@[expose] public section

set_option maxRecDepth 65536

namespace Cert.Proof.Out.Last

/-- The two literals are one. -/
theorem lit_same : Cert.Kernel5Ideal.lit0t = Cert.Kernel4Ideal.lit0t := rfl

end Cert.Proof.Out.Last
-- ==== Proof.OutLastArray.lean ====
/-
  The array the last layer's output projection leaves, over the extended reals: the projection of every token after the context,
  gated by its sample's row.
-/
module

public import proofs.«01_k».proof.Proof.Gen.Kernel5Ideal.Value
public import proofs.«01_k».proof.Proof.OutLastLit
public import proofs.«01_k».proof.Proof.OutArray

@[expose] public section

set_option maxRecDepth 16384

noncomputable section

namespace Cert.Proof.Out.Last

open Cert.Kernel5Ideal Cert.Kernel5Ideal.Gen
open Idealize.ShloMosaic Idealize.ShloMosaic.TcCoe Idealize.SL.Sem
open Idealize.ShloMosaic.Pipeline (Dat)
open Cert.Proof.Ffn (rowOf weight times silu tokenOf modOf modRow zero2 zero3)

/-- A token after the context, in the array of all tokens. -/
def afterContext (L : Fin 8192) : Fin 8448 := ⟨256 + L.val, by omega⟩

/-- The array of projections of the tokens after the context. -/
def projArray (x : Vec Ideal S2x8448x1024 .f32) (md : Vec Ideal S8x6144 .f32) (a : Vec Ideal S2x8448x512 .f32)
    (y f l q : Vec Ideal S2x8448x256 .f32) (g : Vec Ideal S1x1024 .f32) (w : Vec Ideal S1024x1024 .bf16) : Vec Ideal S2x8192x1024 .f32 :=
  fun i => tokenOut x md a y f l q g w (i 0) (afterContext (i 1)) (i 2)

/-- The modulation row a grid point loads. -/
def loadedRow (i : grid0.Coords) (md : Vec Ideal S8x6144 .f32) : Vec Ideal S1x6144 .f32 :=
  View.ld md (Rect.unit (s := S8x6144) (k0_off1 i) S1x6144.size (k0_off1_inb i))

/-- Where that row begins. -/
theorem off1_eq (i : grid0.Coords) : k0_off1 i = ![(i 0).val, 0] := by
  have h0 : (i 0).val < 2 := (i 0).isLt
  have h1 : (i 1).val < 32 := (i 1).isLt
  unfold k0_off1
  generalize (i 0).val = a at h0 ⊢
  generalize (i 1).val = b at h1 ⊢
  revert a b; decide +kernel

/-- The matrix the kernel is given says which lanes share a head. -/
theorem given_sameHead (m : (ℓ : Loc nD τ sig) → Buf (Elt Ideal) ℓ) (c : Dev nD) : SameHead (weight (V m c main_cst)) := by
  have e : V m c main_cst = headMatrix Cert.Kernel5Ideal.lit0t := rfl
  rw [e, lit_same]
  exact headMatrix_sameHead

/-- The block a grid point leaves is the block stored from the arrays it reads. -/
theorem out_eq (c : Dev nD) (i : grid0.Coords) (a2 : Memref sig .tc .vmem S1x256x1024 .f32) (h2 : a2.IsWhole)
    (a3 : Memref sig .tc .vmem S8x6144 .f32) (h3 : a3.IsWhole) (a4 : Memref sig .tc .vmem S1x256x512 .f32) (h4 : a4.IsWhole)
    (a5 a6 a7 a8 : Memref sig .tc .vmem S1x256x256 .f32) (h5 : a5.IsWhole) (h6 : a6.IsWhole) (h7 : a7.IsWhole) (h8 : a8.IsWhole)
    (a9 : Memref sig .tc .vmem S1x1024 .f32) (h9 : a9.IsWhole) (a10 : Memref sig .tc .vmem S128x128 .bf16) (h10 : a10.IsWhole)
    (a11 : Memref sig .tc .vmem S1024x1024 .bf16) (h11 : a11.IsWhole) (a12 : Memref sig .tc .vmem S1x256x1024 .f32) (h12 : a12.IsWhole)
    (x : Vec Ideal S1x256x1024 .f32) (md : Vec Ideal S8x6144 .f32) (a : Vec Ideal S1x256x512 .f32) (y f l q : Vec Ideal S1x256x256 .f32)
    (g : Vec Ideal S1x1024 .f32) (gm : Vec Ideal S128x128 .bf16) (w : Vec Ideal S1024x1024 .bf16) :
    out0_A_10 c i a2 h2 a3 h3 a4 h4 a5 h5 a6 h6 a7 h7 a8 h8 a9 h9 a10 h10 a11 h11 a12 h12 x md a y f l q g gm w
      = stored (loadedRow i md) x a y f l q g gm w := by
  unfold out0_A_10
  rw [View.read_writes_junk_eq_canon]
  unfold kernelRun0_A
  refine (View.canon_unit_zero zero3 _ _).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
    kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15]
  simp only [View.readAt_eq_ld]
  rw [h2.read_unread, h3.read_unread, h4.read_unread, h5.read_unread, h6.read_unread, h7.read_unread, h8.read_unread, h9.read_unread,
    h10.read_unread, h11.read_unread]
  rw [View.ld_unit_zero (S := S1x256x1024) zero3, View.ld_unit_zero (S := S1x1024) zero2, View.ld_unit_zero (S := S1x256x512) zero3,
    View.ld_unit_zero (S := S128x128) zero2, View.ld_unit_zero (S := S1024x1024) zero2]
  simp only [View.ld_unit_zero (S := S1x256x256) zero3]
  rfl

theorem idx_tokens : ∀ t : Fin cfg0.N, win0_0.index t = ![(grid0.coords t 0).val, (grid0.coords t 1).val + 1, 0]
    ∧ win0_2.index t = ![(grid0.coords t 0).val, (grid0.coords t 1).val + 1, 0] ∧ win0_3.index t = ![(grid0.coords t 0).val, (grid0.coords t 1).val + 1, 0]
    ∧ win0_4.index t = ![(grid0.coords t 0).val, (grid0.coords t 1).val + 1, 0] ∧ win0_5.index t = ![(grid0.coords t 0).val, (grid0.coords t 1).val + 1, 0]
    ∧ win0_6.index t = ![(grid0.coords t 0).val, (grid0.coords t 1).val + 1, 0] ∧ win0_10.index t = ![(grid0.coords t 0).val, (grid0.coords t 1).val, 0] :=
  (by decide +kernel : ∀ t : Fin grid0.N, _)

theorem idx_whole : ∀ t : Fin cfg0.N, win0_1.index t = ![0, 0] ∧ win0_7.index t = ![0, 0] ∧ win0_8.index t = ![0, 0]
    ∧ win0_9.index t = ![0, 0] := (by decide +kernel : ∀ t : Fin grid0.N, _)

variable (m : (ℓ : Loc nD τ sig) → Buf (Elt Ideal) ℓ) (c : Dev nD)

/-- The sample of a grid point. -/
def sample (t : Fin cfg0.N) : Fin 2 := grid0.coords t 0
/-- The token of a row of a grid point's block. -/
def token (t : Fin cfg0.N) (r : Fin 256) : Fin 8192 :=
  ⟨(grid0.coords t 1).val * 256 + r.val, by have : (grid0.coords t 1).val < 32 := (grid0.coords t 1).isLt; omega⟩

/-- The blocks of tokens are read from their sample and place. -/
theorem tokens_at (t : Fin cfg0.N) (r : Fin 256) :
    tokenOf (iblk m c 0 t) r = rowAt (V m c main_arg0) (sample t) (afterContext (token t r))
    ∧ laneRow (iblk m c 2 t) r = rowAt (V m c main_arg2) (sample t) (afterContext (token t r))
    ∧ laneRow (iblk m c 3 t) r = rowAt (V m c main_arg3) (sample t) (afterContext (token t r))
    ∧ laneRow (iblk m c 4 t) r = rowAt (V m c main_arg4) (sample t) (afterContext (token t r))
    ∧ laneRow (iblk m c 5 t) r = rowAt (V m c main_arg5) (sample t) (afterContext (token t r))
    ∧ laneRow (iblk m c 6 t) r = rowAt (V m c main_arg6) (sample t) (afterContext (token t r)) := by
  obtain ⟨e0, e2, e3, e4, e5, e6, -⟩ := idx_tokens t
  refine ⟨?_, ?_, ?_, ?_, ?_, ?_⟩ <;> funext d <;> unfold rowAt
  · show iblk m c 0 t (ix3 0 r d) = _
    blk_simp [iblk]
    refine congrArg (V m c main_arg0) ?_
    blk_ext [e0]
    all_goals simp [ix3, sample, token, afterContext]
    all_goals omega
  · show iblk m c 2 t (ix3 0 r d) = _
    blk_simp [iblk]
    refine congrArg (V m c main_arg2) ?_
    blk_ext [e2]
    all_goals simp [ix3, sample, token, afterContext]
    all_goals omega
  · show iblk m c 3 t (ix3 0 r d) = _
    blk_simp [iblk]
    refine congrArg (V m c main_arg3) ?_
    blk_ext [e3]
    all_goals simp [ix3, sample, token, afterContext]
    all_goals omega
  · show iblk m c 4 t (ix3 0 r d) = _
    blk_simp [iblk]
    refine congrArg (V m c main_arg4) ?_
    blk_ext [e4]
    all_goals simp [ix3, sample, token, afterContext]
    all_goals omega
  · show iblk m c 5 t (ix3 0 r d) = _
    blk_simp [iblk]
    refine congrArg (V m c main_arg5) ?_
    blk_ext [e5]
    all_goals simp [ix3, sample, token, afterContext]
    all_goals omega
  · show iblk m c 6 t (ix3 0 r d) = _
    blk_simp [iblk]
    refine congrArg (V m c main_arg6) ?_
    blk_ext [e6]
    all_goals simp [ix3, sample, token, afterContext]
    all_goals omega

/-- The other arrays are read whole. -/
theorem whole_blocks (t : Fin cfg0.N) : iblk m c 1 t = V m c main_arg1 ∧ iblk m c 7 t = V m c main_arg7 ∧ iblk m c 8 t = V m c main_cst
    ∧ iblk m c 9 t = V m c main_arg8 := by
  obtain ⟨e1, e2, e3, e4⟩ := idx_whole t
  refine ⟨?_, ?_, ?_, ?_⟩ <;> funext y <;> blk_simp [iblk]
  · refine congrArg (V m c main_arg1) ?_
    blk_ext [e1]
  · refine congrArg (V m c main_arg7) ?_
    blk_ext [e2]
  · refine congrArg (V m c main_cst) ?_
    blk_ext [e3]
  · refine congrArg (V m c main_arg8) ?_
    blk_ext [e4]

/-- The loaded modulation row is the one of the grid point's tokens. -/
theorem loadedRow_at (t : Fin cfg0.N) (L : Fin 8192) (md : Vec Ideal S8x6144 .f32) :
    rowOf (loadedRow (grid0.coords t) md) = modOf md (modRow (sample t) (afterContext L)) := by
  have hL : ¬(afterContext L).val < 256 := by simp only [afterContext]; omega
  funext d
  refine Attn.window_at md _ _ _ _ _ fun a => ?_
  refine Eq.trans ?_ (congrArg (fun y => y + _) (congrFun (off1_eq (grid0.coords t)) a).symm)
  fin_cases a <;> simp [ix2, sample, modRow, hL]

/-- The array the arguments of a memory give. -/
def result : Vec Ideal S2x8192x1024 .f32 :=
  projArray (V m c main_arg0) (V m c main_arg1) (V m c main_arg2) (V m c main_arg3) (V m c main_arg4) (V m c main_arg5) (V m c main_arg6)
    (V m c main_arg7) (V m c main_arg8)

/-- What the mixers leave is real, for every token after the context. -/
def RealMixers : Prop := ∀ b L, RealMix (V m c main_arg2) (V m c main_arg3) (V m c main_arg4) (V m c main_arg5) b (afterContext L)

/-- One element of a block a grid point stores. -/
theorem block_at (hr : RealMixers m c) (t : Fin cfg0.N) (r : Fin 256) (n : Fin 1024) :
    outsAt0 m c t (ix3 0 r n) = result m c (ix3 (sample t) (token t r) n) := by
  obtain ⟨e1, e7, e8, e9⟩ := whole_blocks m c t
  obtain ⟨i0, i2, i3, i4, i5, i6⟩ := tokens_at m c t r
  obtain ⟨ra, ry, rl⟩ := hr (sample t) (token t r)
  have is : sumRow (iblk m c 4 t) (iblk m c 5 t) r = sumAt (V m c main_arg4) (V m c main_arg5) (sample t) (afterContext (token t r)) :=
    funext fun d => congrArg₂ (fun u v : EReal => u + v) (congrFun i4 d) (congrFun i5 d)
  unfold outsAt0
  rw [out_eq, e1, e7, e8, e9]
  refine (stored_at _ _ _ _ _ _ _ _ _ _ r (i2 ▸ ra) (i3 ▸ ry) (is ▸ rl) (given_sameHead m c) n).trans ?_
  rw [loadedRow_at t (token t r), i0, i2, i3, i6, is]
  rfl

/-- The array after the run. -/
theorem final (hr : RealMixers m c) : (dats m 0 c).arrAt 10 cfg0.N = result m c := by
  refine (dats m 0 c).arrAt_eq_of_covers 10 _ (by decide +kernel) fun t hf y => ?_
  obtain ⟨a, r, n, rfl⟩ : ∃ (a : Fin 1) (r : Fin 256) (n : Fin 1024), y = ix3 a r n := ⟨y 0, y 1, y 2, eq_ix3 y⟩
  obtain rfl : a = 0 := Subsingleton.elim _ _
  refine Eq.trans (b := outsAt0 m c t (ix3 0 r n)) ?_ ?_
  · blk_simp; rw [after0_10]
  · rw [block_at m c hr]
    have e : (win0_10.blk t).view.emb (ix3 0 r n) = (ix3 (sample t) (token t r) n : S2x8192x1024.Idx) := by
      blk_ext [(idx_tokens t).2.2.2.2.2.2]
      all_goals simp [ix3, sample, token]
    exact (congrArg (result m c) e).symm

end Cert.Proof.Out.Last

end
-- ==== Proof.OutLastRef.lean ====
/-
  The last layer's output projection's reference read at a token, over the extended reals: the token's projection.
-/
module

public import proofs.«01_k».proof.Proof.Gen.Reference5Ideal.Read
public import proofs.«01_k».proof.Proof.OutLastArray
public import proofs.«01_k».proof.Proof.OutRef

@[expose] public section

set_option maxRecDepth 16384

noncomputable section

namespace Cert.Proof.Out.Last

open Cert.Reference5Ideal Cert.Reference5Ideal.Read
open Idealize.ShloMosaic
open Cert.Proof.Ffn (rowOf weight times silu tokenOf modOf modRow)

variable (x : Vec Ideal S2x8448x1024 .f32) (md : Vec Ideal S8x6144 .f32) (a : Vec Ideal S2x8448x512 .f32)
  (y f l q : Vec Ideal S2x8448x256 .f32) (g : Vec Ideal S1x1024 .f32) (w : Vec Ideal S1024x1024 .bf16)

/-- The projected rows are the other layers'. -/
theorem ref_same : val_main_v57 a y f l q g w = Cert.Reference4Ideal.Read.val_main_v57 a y f l q g w := rfl

/-- The last layer's reference's result array. -/
theorem ref_array : val_main_v70 x md a y f l q g w = projArray x md a y f l q g w := by
  funext i
  obtain ⟨b, L, n, rfl⟩ : ∃ (b : Fin 2) (L : Fin 8192) (n : Fin 1024), i = ix3 b L n := ⟨i 0, i 1, i 2, eq_ix3 i⟩
  pointwise [val_main_v70, val_main_v69, val_main_v68, val_main_v67, val_main_v66, val_main_v65, val_main_v64, val_main_v63, val_main_v62,
    val_main_v61, val_main_v60, val_main_v59, val_main_v58]
  rw [ref_same]
  simp only [ref_times]
  show _ = projected (modOf md (modRow b (afterContext L))) _ _ (rowAt x b (afterContext L)) n
  unfold modRow
  rw [if_neg (show ¬(afterContext L).val < 256 by simp only [afterContext]; omega)]
  rfl

end Cert.Proof.Out.Last

end
-- ==== Proof.OutLastPre.lean ====
/-
  What the last layer's precondition says of the mixers' results: they are real numbers for the tokens after the context.
-/
module

public import proofs.«01_k».proof.Proof.Gen.Pre_finite_mixers_after_context
public import proofs.«01_k».proof.Proof.OutPre
public import proofs.«01_k».proof.Proof.OutLastArray

@[expose] public section

set_option maxRecDepth 16384

noncomputable section

namespace Cert.Proof.Out.Last

open Idealize.ShloMosaic Cert.Pre_finite_mixers_after_context Cert.Pre_finite_mixers_after_context.Gen
open Cert.Proof.Attn (real_of_abs pos_inf bit_true and_bits)

variable (x : Vec Ideal S2x8448x1024 .f32) (md : Vec Ideal S8x6144 .f32) (a : Vec Ideal S2x8448x512 .f32)
  (y f l q : Vec Ideal S2x8448x256 .f32) (g : Vec Ideal S1x1024 .f32) (w : Vec Ideal S1024x1024 .bf16)

/-- The precondition at an index. -/
theorem fn_at (b : Fin 2) (L : Fin 8192) (c : Fin 256) (hp : fn (F := Ideal) x md a y f l q g w (ix3 b L c) = 1#1) :
    (a (ix3 b (afterContext L) ⟨c.val, by omega⟩) = ((a (ix3 b (afterContext L) ⟨c.val, by omega⟩)).toReal : EReal)
      ∧ a (ix3 b (afterContext L) ⟨256 + c.val, by omega⟩) = ((a (ix3 b (afterContext L) ⟨256 + c.val, by omega⟩)).toReal : EReal))
    ∧ y (ix3 b (afterContext L) c) = ((y (ix3 b (afterContext L) c)).toReal : EReal)
    ∧ f (ix3 b (afterContext L) c) + l (ix3 b (afterContext L) c)
      = ((f (ix3 b (afterContext L) c) + l (ix3 b (afterContext L) c)).toReal : EReal) := by
  revert hp
  pointwise [fn, fn_part1]
  intro hp
  have h1 := and_bits _ _ hp
  have h2 := and_bits _ _ h1.1
  have h3 := and_bits _ _ h2.1
  exact ⟨⟨real_of_abs _ (pos_inf ▸ bit_true h3.1), real_of_abs _ (pos_inf ▸ bit_true h3.2)⟩, real_of_abs _ (pos_inf ▸ bit_true h2.2),
    real_of_abs _ (pos_inf ▸ bit_true h1.2)⟩

/-- Under the precondition what the mixers leave for a token after the context is real. -/
theorem real_of_pre (hp : fn (F := Ideal) x md a y f l q g w = fun _ => 1#1) (b : Fin 2) (L : Fin 8192) :
    RealMix a y f l b (afterContext L) := by
  have h := fun c => fn_at x md a y f l q g w b L c (congrFun hp _)
  exact ⟨real_halves _ (fun c => (h c).1.1) fun c => (h c).1.2, fun c => (h c).2.1, fun c => (h c).2.2⟩

end Cert.Proof.Out.Last

end
-- ==== Proof.OutLastAlgebraic.lean ====
/-
  The output projection of the last layer: its programs' frames, and the kernel's array equal to its reference's, over the extended reals.
-/
module

public import proofs.«01_k».proof.Defs
public import proofs.«01_k».proof.Proof.Gen.Kernel5.Frame
public import proofs.«01_k».proof.Proof.Gen.Reference5Ideal.Run
public import proofs.«01_k».proof.Proof.OutLastRef
public import proofs.«01_k».proof.Proof.OutLastPre

@[expose] public section

set_option maxRecDepth 16384

noncomputable section

namespace Cert.Proof.Out.Last

open Idealize.ShloMosaic

/-- The last layer's kernel's frame at the machine's own numbers. -/
theorem kernel : Cert.quiescent_Kernel5 := fun m ρ _ => Cert.Kernel5.Gen.frame m ρ

/-- The last layer's idealized kernel's frame. -/
theorem kernelIdeal : Cert.quiescent_Kernel5Ideal := fun m ρ _ => Cert.Kernel5Ideal.Gen.frame m ρ

/-- The same under the precondition. -/
theorem kernelIdeal_pre : Cert.quiescent_Kernel5Ideal_pre_finite_mixers_after_context := fun m ρ _ => Cert.Kernel5Ideal.Gen.frame m ρ

/-- The last layer's reference's frame: it is a program of host operations and has no semaphore. -/
theorem reference : Cert.quiescent_Reference5Ideal := by
  intro m ρ _
  exact (θ_run Cert.Reference5Ideal.defs _ _).mono (fun r h => ⟨fun c => (h c).2, sem_eq_zero_of_no_sems (by decide) r.2⟩)
    (Cert.Reference5Ideal.Value.run (F := Ideal) m ρ)

/-- The same under the precondition. -/
theorem reference_pre : Cert.quiescent_Reference5Ideal_pre_finite_mixers_after_context := fun m ρ _ => reference m ρ trivial

section

open Cert.Kernel5Ideal Cert.Kernel5Ideal.Gen

variable (m : (ℓ : Loc nD τ sig) → Buf (Elt Ideal) ℓ) (c : Dev nD)

/-- The last layer's kernel's arguments are not written before it runs. -/
theorem result_args : result m c = projArray (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) := by
  unfold result
  rw [V_main_arg0, V_main_arg1, V_main_arg2, V_main_arg3, V_main_arg4, V_main_arg5, V_main_arg6, V_main_arg7, V_main_arg8]

/-- The precondition makes what the mixers leave real. -/
theorem realMixers (hp : Cert.Pre_Kernel5Ideal_finite_mixers_after_context m) : RealMixers m c := by
  intro b R
  rw [V_main_arg2, V_main_arg3, V_main_arg4, V_main_arg5]
  exact real_of_pre _ _ _ _ _ _ _ _ _ (hp c) b R

end

/-- The last layer's kernel's result is its reference's. -/
theorem algebraic : Cert.algebraic_Kernel5Ideal_Reference5Ideal_pre_finite_mixers_after_context := by
  intro m ρ m' ρ' hp hagree
  refine ⟨result m, ?_, ?_⟩
  · exact (θ_run Cert.Kernel5Ideal.defs _ _).mono (fun r h c => ⟨(h c).1.trans (final m c (realMixers m c hp)), (h c).2⟩)
      (Cert.Kernel5Ideal.Value.run_blocks (F := Ideal) m ρ)
  · refine (θ_run Cert.Reference5Ideal.defs _ _).mono (fun r h c => ⟨(h c).1.trans ?_, (h c).2⟩) (Cert.Reference5Ideal.Value.run (F := Ideal) m' ρ')
    obtain ⟨e0, e1, e2, e3, e4, e5, e6, e7, e8⟩ := hagree c
    rw [Cert.Reference5Ideal.Read.val_main_v70_eq, e0, e1, e2, e3, e4, e5, e6, e7, e8, result_args]
    exact ref_array ..

end Cert.Proof.Out.Last

end
-- ==== Proof.ModArray.lean ====
/-
  The array the modulation kernel leaves, over the extended reals: every layer's modulation rows, each the activation of a row of
  the conditions times the layer's weight, plus the layer's bias.
-/
module

public import proofs.«01_k».proof.Proof.Gen.Kernel6Ideal.Value
public import proofs.«01_k».proof.Proof.FfnArray

@[expose] public section

set_option maxRecDepth 16384

noncomputable section

namespace Cert.Proof.Mod

open Cert.Kernel6Ideal Cert.Kernel6Ideal.Gen
open Idealize.ShloMosaic Idealize.ShloMosaic.TcCoe Idealize.SL.Sem
open Cert.Proof.Ffn (times silu zero2 zero3)

/-- One entry of a modulation row: the activation of the condition times a column of the weight, plus the bias. -/
def entry {n : ℕ} (x : Fin 1024 → EReal) (w : Fin 1024 → Fin n → EReal) (b : Fin n → EReal) (f : Fin n) : EReal :=
  times (fun d => silu (x d)) w f + b f

/-- The array of modulation rows. -/
def rows (x : Vec Ideal S8x1024 .f32) (w : Vec Ideal S4x1024x6144 .f32) (b : Vec Ideal S4x6144 .f32) : Vec Ideal S4x8x6144 .f32 :=
  fun y => entry (fun d => x (ix2 (y 1) d)) (fun d f => w (ix3 (y 0) d f)) (fun f => b (ix2 (y 0) f)) (y 2)

/-- The block stored, from the blocks read. -/
theorem stored_at (x : Vec Ideal S8x1024 .f32) (w : Vec Ideal S1x1024x1536 .f32) (b : Vec Ideal S1x1x1536 .f32) (r : Fin 8) (f : Fin 1536) :
    k0_pay1 x w b (ix3 0 r f) = entry (fun d => x (ix2 r d)) (fun d f => w (ix3 0 d f)) (fun f => b (ix3 0 0 f)) f := by
  pointwise [k0_pay1]
  simp only [zero_sub]
  rfl

/-- The block a grid point leaves is the block stored from the blocks it reads. -/
theorem out_eq (x : Vec Ideal S8x1024 .f32) (w : Vec Ideal S1x1024x1536 .f32) (b : Vec Ideal S1x1x1536 .f32) :
    out0_3 x w b = k0_pay1 x w b := by
  unfold out0_3
  refine (View.canon_unit_zero zero3 _ _).trans ?_
  rw [View.ld_unit_zero (S := S8x1024) zero2, View.ld_unit_zero (S := S1x1024x1536) zero3, View.ld_unit_zero (S := S1x1x1536) zero3]

/-- The bias with a row for each layer. -/
theorem reshaped (b : Vec Ideal S4x6144 .f32) (l : Fin 4) (n : Fin 6144) :
    shapeCast S4x1x6144 b shapeCasts_S4x6144_S4x1x6144 (ix3 l 0 n) = b (ix2 l n) :=
  shapeCast_apply b shapeCasts_S4x6144_S4x1x6144 (ix3 l 0 n) (ix2 l n) (by
    rw [Shape.rowMajor_val_three, Shape.rowMajor_val_two]
    simp [ix2, ix3])

variable (m : (ℓ : Loc nD τ sig) → Buf (Elt Ideal) ℓ) (c : Dev nD)

/-- The bias as the call is given it: one row for each layer. -/
theorem given (l : Fin 4) (n : Fin 6144) : V m c main_v0 (ix3 l 0 n) = m ((c : Thread nD τ).loc main_arg2) (ix2 l n) := by
  have e : V m c main_v0 = shapeCast _ (m ((c : Thread nD τ).loc main_arg2)) shapeCasts_S4x6144_S4x1x6144 := rfl
  rw [e]
  exact reshaped _ l n

theorem idx_all : ∀ t : Fin cfg0.N, win0_0.index t = ![0, 0] ∧ win0_1.index t = ![(grid0.coords t 0).val, 0, (grid0.coords t 1).val]
    ∧ win0_2.index t = ![(grid0.coords t 0).val, 0, (grid0.coords t 1).val] ∧ win0_3.index t = ![(grid0.coords t 0).val, 0, (grid0.coords t 1).val] :=
  (by decide +kernel : ∀ t : Fin grid0.N, _)

/-- The layer of a grid point. -/
def layer (t : Fin cfg0.N) : Fin 4 := grid0.coords t 0
/-- The place in the row of a lane of a grid point's block. -/
def place (t : Fin cfg0.N) (f : Fin 1536) : Fin 6144 :=
  ⟨(grid0.coords t 1).val * 1536 + f.val, by have : (grid0.coords t 1).val < 4 := (grid0.coords t 1).isLt; omega⟩

/-- The conditions are read whole. -/
theorem conditions (t : Fin cfg0.N) : iblk m c 0 t = V m c main_arg0 := by
  funext y
  blk_simp [iblk]
  refine congrArg (V m c main_arg0) ?_
  blk_ext [(idx_all t).1]

/-- A block of the weight is read from its layer and place. -/
theorem weight_at (t : Fin cfg0.N) (d : Fin 1024) (f : Fin 1536) :
    iblk m c 1 t (ix3 0 d f) = V m c main_arg1 (ix3 (layer t) d (place t f)) := by
  blk_simp [iblk]
  refine congrArg (V m c main_arg1) ?_
  blk_ext [(idx_all t).2.1]
  all_goals simp [ix3, layer, place]

/-- A block of the bias is read from its layer and place. -/
theorem bias_at (t : Fin cfg0.N) (f : Fin 1536) :
    iblk m c 2 t (ix3 0 0 f) = m ((c : Thread nD τ).loc main_arg2) (ix2 (layer t) (place t f)) := by
  refine Eq.trans ?_ (given m c (layer t) (place t f))
  blk_simp [iblk]
  refine congrArg (V m c main_v0) ?_
  blk_ext [(idx_all t).2.2.1]
  all_goals simp [ix3, layer, place]

/-- What the run leaves on a device: the rows of its own arguments. -/
def result : Vec Ideal S4x8x6144 .f32 := rows (V m c main_arg0) (V m c main_arg1) (m ((c : Thread nD τ).loc main_arg2))

/-- The array after the run. -/
theorem final : (dats m 0 c).arrAt 3 cfg0.N = result m c := by
  refine (dats m 0 c).arrAt_eq_of_covers 3 _ (by decide +kernel) fun t hf y => ?_
  obtain ⟨a, r, f, rfl⟩ : ∃ (a : Fin 1) (r : Fin 8) (f : Fin 1536), y = ix3 a r f := ⟨y 0, y 1, y 2, eq_ix3 y⟩
  obtain rfl : a = 0 := Subsingleton.elim _ _
  refine Eq.trans (b := out0_3 (iblk m c 0 t) (iblk m c 1 t) (iblk m c 2 t) (ix3 0 r f)) ?_ ?_
  · blk_simp; rw [after0_3]
  · rw [out_eq, stored_at]
    simp only [conditions, weight_at, bias_at]
    have e : (win0_3.blk t).view.emb (ix3 0 r f) = (ix3 (layer t) r (place t f) : S4x8x6144.Idx) := by
      blk_ext [(idx_all t).2.2.2]
      all_goals simp [ix3, layer, place]
    exact (congrArg (result m c) e).symm

end Cert.Proof.Mod

end
-- ==== Proof.ModAlgebraic.lean ====
/-
  The modulation call: its programs' frames, and the kernel's array equal to the reference's, over the extended reals.
-/
module

public import proofs.«01_k».proof.Defs
public import proofs.«01_k».proof.Proof.Gen.Kernel6.Frame
public import proofs.«01_k».proof.Proof.Gen.Reference6Ideal.Run
public import proofs.«01_k».proof.Proof.Gen.Reference6Ideal.Read
public import proofs.«01_k».proof.Proof.Gen.Pre_packed_and_finite
public import proofs.«01_k».proof.Proof.ModArray

@[expose] public section

set_option maxRecDepth 16384

noncomputable section

namespace Cert.Proof.Mod

open Idealize.ShloMosaic

section

open Cert.Reference6Ideal Cert.Reference6Ideal.Read

variable (x : Vec Ideal S8x1024 .f32) (w : Vec Ideal S4x1024x6144 .f32) (b : Vec Ideal S4x6144 .f32) (r : Fin 8)

/-- The reference's activation of a condition. -/
theorem ref_silu (d : Fin 1024) : val_main_v0 x (ix2 r d) = Ffn.silu (x (ix2 r d)) := by
  pointwise [val_main_v0, val_main_call0_v5, val_main_call0_v4, val_main_call0_v3, val_main_call0_v2, val_main_call0_v1, val_main_call0_v0,
    val_main_call0_cst, val_main_call0_cst_0]
  rfl

/-- The reference's rows of a layer, one layer after the other. -/
theorem ref_layers (f : Fin 6144) : val_main_v8 x w b (ix2 r f) = rows x w b (ix3 0 r f) ∧ val_main_v16 x w b (ix2 r f) = rows x w b (ix3 1 r f)
    ∧ val_main_v24 x w b (ix2 r f) = rows x w b (ix3 2 r f) ∧ val_main_v32 x w b (ix2 r f) = rows x w b (ix3 3 r f) := by
  refine ⟨?_, ?_, ?_, ?_⟩
  · pointwise [val_main_v8, val_main_v7, val_main_v6, val_main_v5, val_main_v4, val_main_v3, val_main_v2, val_main_v1]
    simp only [ref_silu]
    rfl
  · pointwise [val_main_v16, val_main_v15, val_main_v14, val_main_v13, val_main_v12, val_main_v11, val_main_v10, val_main_v9]
    simp only [ref_silu]
    rfl
  · pointwise [val_main_v24, val_main_v23, val_main_v22, val_main_v21, val_main_v20, val_main_v19, val_main_v18, val_main_v17]
    simp only [ref_silu]
    rfl
  · pointwise [val_main_v32, val_main_v31, val_main_v30, val_main_v29, val_main_v28, val_main_v27, val_main_v26, val_main_v25]
    simp only [ref_silu]
    rfl

/-- The reference's result array. -/
theorem ref_array : val_main_v37 x w b = rows x w b := by
  funext y
  obtain ⟨l, r, f, rfl⟩ : ∃ (l : Fin 4) (r : Fin 8) (f : Fin 6144), y = ix3 l r f := ⟨y 0, y 1, y 2, eq_ix3 y⟩
  obtain ⟨e0, e1, e2, e3⟩ := ref_layers x w b r f
  pointwise [val_main_v37, val_main_v36, val_main_v35, val_main_v34, val_main_v33]
  simp only [e0, e1, e2, e3]
  fin_cases l <;> rfl

end

/-- The kernel's frame at the machine's own numbers. -/
theorem kernel : Cert.quiescent_Kernel6 := fun m ρ _ => Cert.Kernel6.Gen.frame m ρ

/-- The idealized kernel's frame. -/
theorem kernelIdeal : Cert.quiescent_Kernel6Ideal := fun m ρ _ => Cert.Kernel6Ideal.Gen.frame m ρ

/-- The reference's frame: it is a program of host operations and has no semaphore. -/
theorem reference : Cert.quiescent_Reference6Ideal := by
  intro m ρ _
  exact (θ_run Cert.Reference6Ideal.defs _ _).mono (fun r h => ⟨fun c => (h c).2, sem_eq_zero_of_no_sems (by decide) r.2⟩)
    (Cert.Reference6Ideal.Value.run (F := Ideal) m ρ)

/-- The kernel's result is the reference's. -/
theorem algebraic : Cert.algebraic_Kernel6Ideal_Reference6Ideal := by
  intro m ρ m' ρ' _ hagree
  refine ⟨result m, ?_, ?_⟩
  · exact (θ_run Cert.Kernel6Ideal.defs _ _).mono (fun r h c => ⟨(h c).1.trans (final m c), (h c).2⟩)
      (Cert.Kernel6Ideal.Value.run_blocks (F := Ideal) m ρ)
  · refine (θ_run Cert.Reference6Ideal.defs _ _).mono (fun r h c => ⟨(h c).1.trans ?_, (h c).2⟩) (Cert.Reference6Ideal.Value.run (F := Ideal) m' ρ')
    obtain ⟨e0, e1, e2⟩ := hagree c
    rw [Cert.Reference6Ideal.Read.val_main_v37_eq, e0, e1, e2, ref_array, result, Cert.Kernel6Ideal.Gen.V_main_arg0,
      Cert.Kernel6Ideal.Gen.V_main_arg1]

end Cert.Proof.Mod

end
-- ==== Proof.lean ====
/-
  The proof of `Cert.Claim`: the frames of the kernels, of their idealizations and of the references, and that each kernel
  computes its reference's array over the extended reals.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_packed_and_finite
public import proofs.«01_k».proof.Proof.Frames
public import proofs.«01_k».proof.Proof.Algebraic
public import proofs.«01_k».proof.Proof.FfnAlgebraic
public import proofs.«01_k».proof.Proof.OutAlgebraic
public import proofs.«01_k».proof.Proof.OutLastAlgebraic
public import proofs.«01_k».proof.Proof.ModAlgebraic
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite_mixers
public import proofs.«01_k».proof.Proof.Gen.Pre_finite_mixers_after_context
public import Idealize.ShloMosaic.Adequacy
public import Idealize.ShloMosaic.Init

@[expose] public section

noncomputable section

namespace Cert.Proof

open Idealize.ShloMosaic Idealize.SL.Sem

/-- Everything claimed of the modulation, the attention, the two SwiGLU blocks, the two output projections and their references. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts,
  Cert.Pre_packed_and_finite.Gen.facts, Cert.Pre_finite_mixers.Gen.facts,
  Cert.Pre_finite_mixers_after_context.Gen.facts,
  Frames.kernel, Frames.kernelIdeal, Frames.kernelIdeal_pre, Frames.reference, Frames.reference_pre,
  Ffn.kernel, Ffn.kernelIdeal, Ffn.reference, Ffn.Last.kernel, Ffn.Last.kernelIdeal, Ffn.Last.reference,
  Out.kernel, Out.kernelIdeal, Out.kernelIdeal_pre, Out.reference, Out.reference_pre,
  Out.Last.kernel, Out.Last.kernelIdeal, Out.Last.kernelIdeal_pre, Out.Last.reference, Out.Last.reference_pre,
  Mod.kernel, Mod.kernelIdeal, Mod.reference,
  trivial, Attn.algebraic, trivial, Ffn.algebraic, trivial, Ffn.Last.algebraic, trivial, Out.algebraic, trivial, Out.Last.algebraic,
  trivial, Mod.algebraic⟩

end Cert.Proof

end
